-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 2048, 4, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_scores_finite_ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S_ : Shape := ⟨0, ![]⟩

class Facts : Prop where
  bcast_S_S2x2048x512 : S_.BroadcastsInDim S2x2048x512 (![] : Fin 0 → Fin S2x2048x512.rank)
  bcast_S_S512x256 : S_.BroadcastsInDim S512x256 (![] : Fin 0 → Fin S512x256.rank)
  bcast_S_S2x2048x4x64 : S_.BroadcastsInDim S2x2048x4x64 (![] : Fin 0 → Fin S2x2048x4x64.rank)

variable [Facts]

def fn {F : FTy → Type} [FloatOps F] (main_arg0 : FVec F S2x2048x512 .bf16) (main_arg1 : FVec F S512x256 .bf16) (main_arg2 : FVec F S2x2048x4x64 .bf16) (main_arg3 : FVec F S2x2048x4x64 .bf16) (main_arg4 : FVec F S256x512 .bf16) : IVec S2x2048x512 1 × IVec S512x256 1 × IVec S2x2048x4x64 1 :=
  let main_v0 : FVec F S2x2048x512 .bf16 := Host.absf main_arg0
  let main_cst : FVec F S_ .bf16 := constant S_ .bf16 0x7F80#16
  let main_v1 : FVec F S2x2048x512 .bf16 := broadcastInDim S2x2048x512 ![] bcast_S_S2x2048x512 main_cst
  let main_v2 : IVec S2x2048x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x2048x4x64 .bf16 := Host.absf main_arg2
  let main_cst_1 : FVec F S_ .bf16 := constant S_ .bf16 0x7F80#16
  let main_v7 : FVec F S2x2048x4x64 .bf16 := broadcastInDim S2x2048x4x64 ![] bcast_S_S2x2048x4x64 main_cst_1
  let main_v8 : IVec S2x2048x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x2x4x128x64 : Shape := ⟨5, ![2, 2, 4, 128, 64]⟩
abbrev S2x2x2x4x128x64 : Shape := ⟨6, ![2, 2, 2, 4, 128, 64]⟩
abbrev S2 : Shape := ⟨1, ![2]⟩
abbrev S2x4x128x64 : Shape := ⟨4, ![2, 4, 128, 64]⟩
abbrev S1x2x4x128x64 : Shape := ⟨5, ![1, 2, 4, 128, 64]⟩
abbrev S_ : Shape := ⟨0, ![]⟩
abbrev S1 : Shape := ⟨1, ![1]⟩
abbrev S1x2x2x4x128x64 : Shape := ⟨6, ![1, 2, 2, 4, 128, 64]⟩
abbrev S256x256 : Shape := ⟨2, ![256, 256]⟩
abbrev S1x4x128x64 : Shape := ⟨4, ![1, 4, 128, 64]⟩
abbrev S4x128x64 : Shape := ⟨3, ![4, 128, 64]⟩
abbrev S1x1x4x128x64 : Shape := ⟨5, ![1, 1, 4, 128, 64]⟩
abbrev S4x128x128 : Shape := ⟨3, ![4, 128, 128]⟩
abbrev S4x128 : Shape := ⟨2, ![4, 128]⟩
abbrev S4x128x1 : Shape := ⟨3, ![4, 128, 1]⟩
abbrev S1x128x128 : Shape := ⟨3, ![1, 128, 128]⟩
abbrev S1x1x1x4x128x64 : Shape := ⟨6, ![1, 1, 1, 4, 128, 64]⟩
abbrev S128x4x64 : Shape := ⟨3, ![128, 4, 64]⟩
abbrev S1x128x4x64 : Shape := ⟨4, ![1, 128, 4, 64]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S2x2x4x128x64, .bf16⟩
  | .local _ .vmem, ⟨7, _⟩ => ⟨S2x2x2x4x128x64, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_22 : BitVec 32 := 1#32
  let v21 : BitVec 32 := Scalar.muli v5 c1_i32_22
  let v22 : BitVec 32 := Scalar.addi c0_i32 v21
  v22.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_24 : BitVec 32 := 1#32
  let v23 : BitVec 32 := Scalar.muli v7 c1_i32_24
  let v24 : BitVec 32 := Scalar.addi c0_i32_25 v23
  v24.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_29 : BitVec 32 := 1#32
  let v25 : BitVec 32 := Scalar.muli v7 c1_i32_29
  let v26 : BitVec 32 := Scalar.addi c0_i32_30 v25
  v26.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_39 : BitVec 32 := 1#32
  let v33 : BitVec 32 := Scalar.muli v5 c1_i32_39
  let v34 : BitVec 32 := Scalar.addi c0_i32_40 v33
  v34.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x256 : Shape := ⟨2, ![512, 256]⟩
abbrev S2x2048x4x64 : Shape := ⟨4, ![2, 2048, 4, 64]⟩
abbrev S256x512 : Shape := ⟨2, ![256, 512]⟩
abbrev S2x2048x256 : Shape := ⟨3, ![2, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x4x2048x2048 : Shape := ⟨4, ![2, 4, 2048, 2048]⟩
abbrev S1x1x2048x2048 : Shape := ⟨4, ![1, 1, 2048, 2048]⟩
abbrev S2x4x2048 : Shape := ⟨3, ![2, 4, 2048]⟩
abbrev S2x4x2048x1 : Shape := ⟨4, ![2, 4, 2048, 1]⟩
abbrev S1x1x2048x1 : Shape := ⟨4, ![1, 1, 2048, 1]⟩
abbrev S2x4x64x2048 : Shape := ⟨4, ![2, 4, 64, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x512, .bf16⟩
  | .hbm, ⟨1, _⟩ => ⟨S512x256, .bf16⟩
  | .hbm, ⟨2, _⟩ => ⟨S2x2048x4x64, .bf16⟩
  | .hbm, ⟨3, _⟩ => ⟨S2x2048x4x64, .bf16⟩
  | .hbm, ⟨4, _⟩ => ⟨S256x512, .bf16⟩
  | .hbm, ⟨5, _⟩ => ⟨S2x2048x512, .f32⟩
  | .hbm, ⟨6, _⟩ => ⟨S512x256, .f32⟩
  | .hbm, ⟨7, _⟩ => ⟨S2x2048x4x64, .f32⟩
  | .hbm, ⟨8, _⟩ => ⟨S2x2048x4x64, .f32⟩
  | .hbm, ⟨9, _⟩ => ⟨S256x512, .f32⟩
  | .hbm, ⟨10, _⟩ => ⟨S2x2048x256, .f32⟩
  | .hbm, ⟨11, _⟩ => ⟨S2x2048x4x64, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S2x4x2048x2048, .f32⟩
  | .hbm, ⟨24, _⟩ => ⟨S_, .f32⟩
  | .hbm, ⟨25, _⟩ => ⟨S2x4x2048x2048, .f32⟩
  | .hbm, ⟨26, _⟩ => ⟨S2x4x2048x2048, .f32⟩
  | .hbm, ⟨27, _⟩ => ⟨S1x1x2048x2048, .i1⟩
  | .hbm, ⟨28, _⟩ => ⟨S_, .f32⟩
  | .hbm, ⟨29, _⟩ => ⟨S_, .f32⟩
  | .hbm, ⟨30, _⟩ => ⟨S2x4x2048x2048, .i1⟩
  | .hbm, ⟨31, _⟩ => ⟨S2x4x2048x2048, .f32⟩
  | .hbm, ⟨32, _⟩ => ⟨S2x4x2048x2048, .f32⟩
  | .hbm, ⟨33, _⟩ => ⟨S_, .f32⟩
  | .hbm, ⟨34, _⟩ => ⟨S2x4x2048, .f32⟩
  | .hbm, ⟨35, _⟩ => ⟨S2x4x2048x1, .f32⟩
  | .hbm, ⟨36, _⟩ => ⟨S2x4x2048x2048, .f32⟩
  | .hbm, ⟨37, _⟩ => ⟨S2x4x2048x2048, .f32⟩
  | .hbm, ⟨38, _⟩ => ⟨S2x4x2048x2048, .f32⟩
  | .hbm, ⟨39, _⟩ => ⟨S_, .i1⟩
  | .hbm, ⟨40, _⟩ => ⟨S2048, .i1⟩
  | .hbm, ⟨41, _⟩ => ⟨S1x1x2048x1, .i1⟩
  | .hbm, ⟨42, _⟩ => ⟨S_, .f32⟩
  | .hbm, ⟨43, _⟩ => ⟨S2x4x2048, .f32⟩
  | .hbm, ⟨44, _⟩ => ⟨S2x4x2048x1, .f32⟩
  | .hbm, ⟨45, _⟩ => ⟨S_, .f32⟩
  | .hbm, ⟨46, _⟩ => ⟨S_, .f32⟩
  | .hbm, ⟨47, _⟩ => ⟨S2x4x2048x1, .i1⟩
  | .hbm, ⟨48, _⟩ => ⟨S2x4x2048x1, .f32⟩
  | .hbm, ⟨49, _⟩ => ⟨S2x4x2048x1, .f32⟩
  | .hbm, ⟨50, _⟩ => ⟨S2x4x2048x2048, .f32⟩
  | .hbm, ⟨51, _⟩ => ⟨S2x4x2048x2048, .f32⟩
  | .hbm, ⟨52, _⟩ => ⟨S1x1x2048x1, .i1⟩
  | .hbm, ⟨53, _⟩ => ⟨S_, .f32⟩
  | .hbm, ⟨54, _⟩ => ⟨S_, .f32⟩
  | .hbm, ⟨55, _⟩ => ⟨S2x4x2048x2048, .i1⟩
  | .hbm, ⟨56, _⟩ => ⟨S2x4x2048x2048, .f32⟩
  | .hbm, ⟨57, _⟩ => ⟨S2x4x2048x2048, .f32⟩
  | .hbm, ⟨58, _⟩ => ⟨S2x4x64x2048, .f32⟩
  | .hbm, ⟨59, _⟩ => ⟨S2x2048x4x64, .f32⟩
  | .hbm, ⟨60, _⟩ => ⟨S2x2048x256, .f32⟩
  | .hbm, ⟨61, _⟩ => ⟨S2x2048x512, .f32⟩
  | _, _ => ⟨S2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Ideal.Setup.lean ====
/-
# The run of the kernel: the exchange with both ring neighbours, and what every device leaves

Device `c` (of sixteen) lays its key block and its value block, transposed, in `kv_send`.  It signals its left
neighbour, then its right one, on the barrier semaphore and waits there for two units.  Then it copies `kv_send` whole
into slot 0 of its right neighbour's `kv_win` and into slot 1 of its left neighbour's `kv_win`, two transfers of one
source in flight at once, while it computes the attention against its own block out of the same `kv_send`.  It waits
for the pair of semaphores of copy 0 (its own send, the arrival from the left), uses slot 0, waits for the pair of
copy 1, uses slot 1, and stores the projected result.

The protocol, written with one direction `k` (`0`: to the right, `1`: to the left):

* barrier cell of `c`: one round of two duties of one unit.  Duty `k` is paid by `peer k c`, the device that `c`'s copy
  `k` goes to, with slot `k` of that device's `kv_win` and with the record that its receive cell `k` is at round 0.
  So the wait for two units hands `c` both slots that it is about to write, and no copy can start before the owner of
  the slot has given it away.
* send cell `k` of `c`: one duty, paid by the transfer itself with the share of `kv_send` that it read.
* receive cell `k` of `c`: one duty, paid by the transfer of `peer (1 - k) c`, with slot `k` of `c` holding what that
  device had in `kv_send`.

Levels: the barrier is below the receive cells, so a device may wait at the barrier while it still owes both of its
neighbours a transfer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.Tactic

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state beside the pipeline's own: rounds whose duties are named by a direction. -/
abbrev UDir : Type := URounds (GSem nD τ sig) (Fin 2)
/-- The ghost state: the pipeline's and the protocol's. -/
abbrev UAll : Type := UR sig nD τ × UDir

local notation "𝕄" => MT nD τ sig Unit (Elt F) ℕ UAll ℕ

/-- The embeddings of its two parts. -/
abbrev EPipe : Emb (UR sig nD τ) (MT nD τ sig Unit (Elt F) ℕ UAll ℕ) := embL
abbrev EDir : Emb UDir (MT nD τ sig Unit (Elt F) ℕ UAll ℕ) := embR

variable (m : (ℓ : Loc nD τ sig) → Buf (Elt F) ℓ) (ρ : Dev nD → PrngReg)

/-- The launch state: any memory, every counter at zero. -/
def start₀ : MemSt nD τ sig (Elt F) := ⟨m, fun _ => 0, ρ⟩

/-! ## The ring of sixteen -/

/-- The device that a copy in direction `k` goes to: the right neighbour, the left neighbour. -/
def peer (k : Fin 2) (c : Dev nD) : Dev nD :=
  ⟨(c.val + (if k = 0 then 1 else 15)) % 16, Nat.mod_lt _ (by norm_num)⟩

/-- The other direction. -/
abbrev opp (k : Fin 2) : Fin 2 := 1 - k

/-- Going one way around the ring and then the other leads back. -/
theorem peer_opp (k : Fin 2) (c : Dev nD) : peer k (peer (opp k) c) = c := by revert k c; decide
theorem opp_peer (k : Fin 2) (c : Dev nD) : peer (opp k) (peer k c) = c := by revert k c; decide

/-- Being a device's peer, said from the other side. -/
theorem peer_eq_iff (k : Fin 2) (c d : Dev nD) : c = peer k d ↔ d = peer (opp k) c :=
  ⟨fun h => by rw [h, opp_peer], fun h => by rw [h, peer_opp]⟩

/-- The devices that the kernel signals and copies to are the peers. -/
theorem dev1_is (c : Dev nD) : (⟨k0_dev1 c, k0_dev1_lt c⟩ : Dev nD) = peer 1 c := Fin.ext (k0_dev1_eq c)
theorem dev2_is (c : Dev nD) : (⟨k0_dev2 c, k0_dev2_lt c⟩ : Dev nD) = peer 0 c := Fin.ext (k0_dev2_eq c)
theorem dev3_is (c : Dev nD) : (⟨k0_dev3 c, k0_dev3_lt c⟩ : Dev nD) = peer 0 c := Fin.ext (k0_dev3_eq c)
theorem dev4_is (c : Dev nD) : (⟨k0_dev4 c, k0_dev4_lt c⟩ : Dev nD) = peer 1 c := Fin.ext (k0_dev4_eq c)

/-- A direction as a permutation of the devices. -/
def turn (k : Fin 2) : Dev nD ≃ Dev nD := ⟨peer k, peer (opp k), opp_peer k, peer_opp k⟩

/-! ## Buffers, semaphores, cells -/

/-- `kv_send` and `kv_win`. -/
abbrev sendM : Memref sig .tc .vmem S2x2x4x128x64 .bf16 := Memref.whole cc0_scratch0
/-- The buffer of what has arrived. -/
abbrev winM : Memref sig .tc .vmem S2x2x2x4x128x64 .bf16 := Memref.whole cc0_scratch1

/-- A slot lies within it. -/
theorem slot_inb (k : Fin 2) : ∀ a, (![k.val, 0, 0, 0, 0, 0] : Fin 6 → ℕ) a + S1x2x2x4x128x64.size a ≤ S2x2x2x4x128x64.size a := by
  fin_cases k
  · exact inb_S2x2x2x4x128x64_S1x2x2x4x128x64_0_0_0_0_0_0
  · exact inb_S2x2x2x4x128x64_S1x2x2x4x128x64_1_0_0_0_0_0

/-- The rectangle of slot `k` of `kv_win`, and the slot as the copies name it. -/
abbrev slotR (k : Fin 2) : Rect S2x2x2x4x128x64 := Rect.unit (s := S2x2x2x4x128x64) ![k.val, 0, 0, 0, 0, 0] S1x2x2x4x128x64.size (slot_inb k)
/-- A slot. -/
abbrev slotM (k : Fin 2) : Memref sig .tc .vmem S2x2x4x128x64 .bf16 :=
  (winM.slice (slotR k) (fun _ => rfl)).squeeze S2x2x4x128x64 squeezes_S1x2x2x4x128x64_S2x2x4x128x64

/-- The kernel's first slot, and its second, are these. -/
theorem slot0_is : (winM.slice (Rect.unit (s := S2x2x2x4x128x64) ![0, 0, 0, 0, 0, 0] ![1, 2, 2, 4, 128, 64] inb_S2x2x2x4x128x64_S1x2x2x4x128x64_0_0_0_0_0_0) (fun _ => rfl)).squeeze
    S2x2x4x128x64 squeezes_S1x2x2x4x128x64_S2x2x4x128x64 = slotM 0 := rfl
theorem slot1_is : (winM.slice (Rect.unit (s := S2x2x2x4x128x64) ![1, 0, 0, 0, 0, 0] ![1, 2, 2, 4, 128, 64] inb_S2x2x2x4x128x64_S1x2x2x4x128x64_1_0_0_0_0_0) (fun _ => rfl)).squeeze
    S2x2x4x128x64 squeezes_S1x2x2x4x128x64_S2x2x4x128x64 = slotM 1 := rfl

/-- The barrier semaphore; the two send semaphores; the two receive semaphores. -/
abbrev barQ : Sem sig := (SemArray.scalar (sig.barrier 0 rfl) : Sems sig S_).sem
/-- The semaphores of the copies. -/
abbrev sendQ : Fin 2 → DmaSem sig := fun | 0 => ⟨6, by decide⟩ | 1 => ⟨7, by decide⟩
abbrev recvQ : Fin 2 → DmaSem sig := fun | 0 => ⟨8, by decide⟩ | 1 => ⟨9, by decide⟩

/-- The kernel's semaphores are these. -/
theorem sendQ0_is : ((cc0_scratch2.slice (Rect.unit (s := S2) ![0] ![1] inb_S2_S1_0)).squeeze S_ squeezes_S1_S_).sem = sendQ 0 := rfl
theorem sendQ1_is : ((cc0_scratch2.slice (Rect.unit (s := S2) ![1] ![1] inb_S2_S1_1)).squeeze S_ squeezes_S1_S_).sem = sendQ 1 := rfl
theorem recvQ0_is : ((cc0_scratch3.slice (Rect.unit (s := S2) ![0] ![1] inb_S2_S1_0)).squeeze S_ squeezes_S1_S_).sem = recvQ 0 := rfl
theorem recvQ1_is : ((cc0_scratch3.slice (Rect.unit (s := S2) ![1] ![1] inb_S2_S1_1)).squeeze S_ squeezes_S1_S_).sem = recvQ 1 := rfl

/-- They are all different. -/
theorem send_ne_recv (k j : Fin 2) : (SemLoc.dma (sendQ k) : SemLoc sig) ≠ .dma (recvQ j) := by revert k j; decide
theorem sendQ_inj {k j : Fin 2} (h : (SemLoc.dma (sendQ k) : SemLoc sig) = .dma (sendQ j)) : k = j := by revert k j; decide
theorem recvQ_inj {k j : Fin 2} (h : (SemLoc.dma (recvQ k) : SemLoc sig) = .dma (recvQ j)) : k = j := by revert k j; decide

/-- The cells of a device. -/
abbrev barCell (c : Dev nD) : GSem nD τ sig := ((c : Thread nD τ), .reg barQ)
abbrev sendCell (k : Fin 2) (c : Dev nD) : GSem nD τ sig := ((c : Thread nD τ), .dma (sendQ k))
abbrev recvCell (k : Fin 2) (c : Dev nD) : GSem nD τ sig := ((c : Thread nD τ), .dma (recvQ k))

/-- What one transfer of `kv_send` credits. -/
abbrev bytes : ℕ := (sendM : Memref sig .tc .vmem S2x2x4x128x64 .bf16).view.dmaCredit
/-- A copy brings some bytes, to either slot as many. -/
theorem bytes_pos : 0 < bytes := View.dmaCredit_pos _ (by decide)
theorem slot_bytes (k : Fin 2) : (slotM k).view.dmaCredit = bytes := by fin_cases k <;> rfl

/-! ## Contents -/

/-- The five staged operands of device `c`: its block of `x`, the query weights, its keys, its values, the output weights. -/
def xBlk (c : Dev nD) : (cc0_stg0_0 : Ref sig .tc).ty.Contents (Elt F) := (win0_0.blk (0 : Fin 1)).view.read (Elt F) (m ((c : Thread nD τ).loc main_arg0))
def wqBlk (c : Dev nD) : (cc0_stg1_0 : Ref sig .tc).ty.Contents (Elt F) := (win0_1.blk (0 : Fin 1)).view.read (Elt F) (m ((c : Thread nD τ).loc main_arg1))
def kBlk (c : Dev nD) : (cc0_stg2_0 : Ref sig .tc).ty.Contents (Elt F) := (win0_2.blk (0 : Fin 1)).view.read (Elt F) (m ((c : Thread nD τ).loc main_arg2))
def vBlk (c : Dev nD) : (cc0_stg3_0 : Ref sig .tc).ty.Contents (Elt F) := (win0_3.blk (0 : Fin 1)).view.read (Elt F) (m ((c : Thread nD τ).loc main_arg3))
def woBlk (c : Dev nD) : (cc0_stg4_0 : Ref sig .tc).ty.Contents (Elt F) := (win0_4.blk (0 : Fin 1)).view.read (Elt F) (m ((c : Thread nD τ).loc main_arg4))

/-- `kv_send` once the keys (part 0) and the values (part 1) are laid in it. -/
def sendOf (kk vv : Vec F S2x128x4x64 .bf16) : S2x2x4x128x64.Idx → Elt F .bf16 := fun i =>
  if (i 0).val = 0 then k0_pay2 kk (ix5 (0 : Fin 1) (i 1) (i 2) (i 3) (i 4)) else k0_pay3 vv (ix5 (0 : Fin 1) (i 1) (i 2) (i 3) (i 4))

/-- `kv_send` once it is filled. -/
def sent (c : Dev nD) : (cc0_scratch0 : Ref sig .tc).ty.Contents (Elt F) := sendOf (kBlk m c) (vBlk m c)

/-- `kv_win` once both copies have arrived: slot `k` holds what `peer (1 - k) c` sent. -/
def got (c : Dev nD) : (cc0_scratch1 : Ref sig .tc).ty.Contents (Elt F) := fun i =>
  sent m (peer (opp (i 0)) c) (ix5 (i 1) (i 2) (i 3) (i 4) (i 5))

/-- The index of `kv_win` under index `x` of slot `k`. -/
theorem slot_emb (k : Fin 2) (x : S2x2x4x128x64.Idx) (a : Fin 6) :
    ((((slotM k).view.emb x : S2x2x2x4x128x64.Idx) a).val) = match a with | 0 => k.val | 1 => (x 0).val | 2 => (x 1).val | 3 => (x 2).val | 4 => (x 3).val | 5 => (x 4).val := by
  have h : ((slotM k).view.emb x : S2x2x2x4x128x64.Idx) = (slotR k).idx (Shape.reshapeEquiv (s := S1x2x2x4x128x64) (s' := S2x2x4x128x64) squeezes_S1x2x2x4x128x64_S2x2x4x128x64.numel_eq x) := rfl
  rw [h, Shape.reshapeEquiv_cons_one (n := 5) (d := ![2, 2, 4, 128, 64]) squeezes_S1x2x2x4x128x64_S2x2x4x128x64.numel_eq x]
  fin_cases a
  · show k.val + 1 * 0 = k.val; omega
  all_goals (show 0 + 1 * _ = _; rw [Nat.zero_add, Nat.one_mul]; rfl)

/-- A slot is the part of the buffer with its number first. -/
theorem mem_slot (k : Fin 2) (i : S2x2x2x4x128x64.Idx) : i ∈ (slotM k).view.set ↔ (i 0).val = k.val := by
  constructor
  · intro h
    obtain ⟨x, -, rfl⟩ := Finset.mem_map.mp h
    exact slot_emb k x 0
  · intro h
    refine Finset.mem_map.mpr ⟨ix5 (i 1) (i 2) (i 3) (i 4) (i 5), Finset.mem_univ _, ?_⟩
    funext a
    refine Fin.ext ((slot_emb k _ a).trans ?_)
    fin_cases a
    · exact h.symm
    all_goals rfl

/-- The slots don't overlap, -/
theorem slots_disjoint : Disjoint (slotM 0).view.set (slotM 1).view.set :=
  Finset.disjoint_left.mpr fun i h0 h1 => by
    have e0 := (mem_slot 0 i).mp h0
    have e1 := (mem_slot 1 i).mp h1
    rw [e0] at e1; exact absurd e1 (by decide)

/-- and together are the whole buffer. -/
theorem slots_cover : (slotM 0).view.set ∪ (slotM 1).view.set = (Finset.univ : Finset S2x2x2x4x128x64.Idx) := by
  refine Finset.eq_univ_iff_forall.mpr fun i => Finset.mem_union.mpr ?_
  have h : (i 0).val < 2 := (i 0).isLt
  rcases Nat.lt_or_ge (i 0).val 1 with h' | h'
  · exact .inl ((mem_slot 0 i).mpr (by show _ = 0; omega))
  · exact .inr ((mem_slot 1 i).mpr (by show _ = 1; omega))

/-- Slot `k` after `peer (1 - k) c`'s copy landed over anything. -/
theorem landed_eq (k : Fin 2) (c : Dev nD) (f : (cc0_scratch1 : Ref sig .tc).ty.Contents (Elt F)) :
    ∀ i ∈ (slotM k).view.set, (slotM k).view.write (Elt F) f ((sendM : Memref sig .tc .vmem S2x2x4x128x64 .bf16).view.read (Elt F) (sent m (peer (opp k) c))) Finset.univ i = got m c i := by
  intro i hi
  obtain ⟨x, -, rfl⟩ := Finset.mem_map.mp hi
  refine (View.write_emb_of_mem _ _ (Finset.mem_univ _)).trans ?_
  have e := fun a => slot_emb k x a
  show sent m (peer (opp k) c) x = sent m (peer (opp ((slotM k).view.emb x 0)) c) (ix5 _ _ _ _ _)
  have e0 : ((slotM k).view.emb x : S2x2x2x4x128x64.Idx) 0 = k := Fin.ext (e 0)
  rw [e0]
  refine congrArg (sent m (peer (opp k) c)) (funext fun a => Fin.ext ?_)
  fin_cases a
  · exact (e 1).symm
  · exact (e 2).symm
  · exact (e 3).symm
  · exact (e 4).symm
  · exact (e 5).symm

/-- The rectangles of the two stores into `kv_send`. -/
abbrev part0R : Rect S2x2x4x128x64 := Rect.unit (s := S2x2x4x128x64) ![0, 0, 0, 0, 0] S1x2x4x128x64.size inb_S2x2x4x128x64_S1x2x4x128x64_0_0_0_0_0
/-- The second part of `kv_send`: the values. -/
abbrev part1R : Rect S2x2x4x128x64 := Rect.unit (s := S2x2x4x128x64) ![1, 0, 0, 0, 0] S1x2x4x128x64.size inb_S2x2x4x128x64_S1x2x4x128x64_1_0_0_0_0

/-- The two stores cover `kv_send`, whatever it held. -/
theorem laid_eq (f : (cc0_scratch0 : Ref sig .tc).ty.Contents (Elt F)) (kk vv : Vec F S2x128x4x64 .bf16) :
    (sendM.access part1R : View sig .tc _ _ _).write (Elt F) ((sendM.access part0R : View sig .tc _ _ _).write (Elt F) f (k0_pay2 kk) Finset.univ) (k0_pay3 vv) Finset.univ
      = sendOf kk vv := by
  have hi : ∀ i : S2x2x4x128x64.Idx, (i 0).val < 2 := fun i => (i 0).isLt
  funext i
  by_cases h : (i 0).val = 0
  · have e : (sendM.access part0R : View sig .tc _ _ _).emb (ix5 (0 : Fin 1) (i 1) (i 2) (i 3) (i 4)) = i := by
      funext a; apply Fin.ext; fin_cases a
      · show 0 + 1 * 0 = (i 0).val; omega
      all_goals (show 0 + 1 * _ = _; rw [Nat.zero_add, Nat.one_mul]; rfl)
    refine (View.write_of_not_mem _ _ _ ?_).trans ?_
    · intro hm
      obtain ⟨x, -, hx⟩ := Finset.mem_map.mp hm
      have := congrArg (fun j : S2x2x4x128x64.Idx => (j 0).val) hx
      have : 1 + 1 * (x 0).val = (i 0).val := this
      omega
    · rw [show sendOf kk vv i = k0_pay2 kk (ix5 (0 : Fin 1) (i 1) (i 2) (i 3) (i 4)) from if_pos h]
      exact (congrArg _ e.symm).trans (View.write_emb_of_mem _ _ (Finset.mem_univ _))
  · have e : (sendM.access part1R : View sig .tc _ _ _).emb (ix5 (0 : Fin 1) (i 1) (i 2) (i 3) (i 4)) = i := by
      funext a; apply Fin.ext; fin_cases a
      · show 1 + 1 * 0 = (i 0).val; have := hi i; omega
      all_goals (show 0 + 1 * _ = _; rw [Nat.zero_add, Nat.one_mul]; rfl)
    rw [show sendOf kk vv i = k0_pay3 vv (ix5 (0 : Fin 1) (i 1) (i 2) (i 3) (i 4)) from if_neg h]
    exact (congrArg _ e.symm).trans (View.write_emb_of_mem _ _ (Finset.mem_univ _))

end Cert.KernelIdeal.Run

end
-- ==== Proof.Ideal.Rounds.lean ====
/-
# The schedule of the exchange: who pays what on which semaphore, and what a device owes at its start
-/
module

public import proofs.«01_k».proof.Proof.Ideal.Setup

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAll ℕ

variable (m : (ℓ : Loc nD τ sig) → Buf (Elt F) ℓ)

/-! ## Points-to assertions -/

/-- Slot `k` of device `c`'s `kv_win`. -/
def slotPts (k : Fin 2) (c : Dev nD) (f : Buf (Elt F) ((slotM k).view.loc (c : Thread nD τ))) : sProp 𝕄 :=
  (slotM k).view.loc (c : Thread nD τ) ↦[(slotM k).view.set]{fullShare} f

/-- A share of device `c`'s `kv_send`, filled. -/
def sentPts (q : PosShare TreeShare) (c : Dev nD) : sProp 𝕄 :=
  (sendM : Memref sig .tc .vmem S2x2x4x128x64 .bf16).view.loc (c : Thread nD τ) ↦[(sendM : Memref sig .tc .vmem S2x2x4x128x64 .bf16).view.set]{q} sent m c

/-- What a landing hands over may be kept in a cell. -/
instance slotPts_storable (k : Fin 2) (c : Dev nD) (f) : BI.Storable (upEmb : UEmb _ 𝕄) (slotPts (F := F) k c f) := by unfold slotPts; infer_instance
instance sentPts_storable (q) (c : Dev nD) : BI.Storable (upEmb : UEmb _ 𝕄) (sentPts (F := F) m q c) := by unfold sentPts; infer_instance

/-- A share of `kv_send`, spelled out. -/
theorem sentPts_eq (q) (c : Dev nD) : sentPts m q c = (((c : Thread nD τ).loc cc0_scratch0) ↦{q} sent m c : sProp 𝕄) := by
  unfold sentPts; rw [View.set_whole]

/-- The share of `kv_send` that copy `k` reads; a third share stays with the device, which reads its own block meanwhile. -/
abbrev lent : Fin 2 → PosShare TreeShare := fun | 0 => fullShare.left | 1 => fullShare.right.left
/-- The share that the device keeps for reading. -/
abbrev kept : PosShare TreeShare := fullShare.right.right

/-- `kv_send` in its three shares. -/
theorem sent_three (c : Dev nD) (f : (cc0_scratch0 : Ref sig .tc).ty.Contents (Elt F)) :
    ((((c : Thread nD τ).loc cc0_scratch0) ↦{fullShare} f : sProp 𝕄))
      ⊣⊢ iprop((((c : Thread nD τ).loc cc0_scratch0) ↦{lent 0} f) ∗ (((c : Thread nD τ).loc cc0_scratch0) ↦{lent 1} f) ∗ (((c : Thread nD τ).loc cc0_scratch0) ↦{kept} f)) := by
  have h1 := pointsTo_share (Ix := Unit) (Name := ℕ) (U := UAll) (Lvl := ℕ) (ℓ := (c : Thread nD τ).loc cc0_scratch0) (I := Finset.univ) (f := f)
    (PosShare.mem_left_op_right fullShare)
  have h2 := pointsTo_share (Ix := Unit) (Name := ℕ) (U := UAll) (Lvl := ℕ) (ℓ := (c : Thread nD τ).loc cc0_scratch0) (I := Finset.univ) (f := f)
    (PosShare.mem_left_op_right fullShare.right)
  exact ⟨h1.1.trans (BI.sep_mono (BI.Entails.refl _) h2.1), (BI.sep_mono (BI.Entails.refl _) h2.2).trans h1.2⟩

/-- `kv_win` in its two slots, at any contents. -/
theorem win_slots (c : Dev nD) (f : (cc0_scratch1 : Ref sig .tc).ty.Contents (Elt F)) :
    ((((c : Thread nD τ).loc cc0_scratch1) ↦{fullShare} f : sProp 𝕄)) = iprop(slotPts 0 c f ∗ slotPts 1 c f) := by
  have h := pointsTo_union (Ix := Unit) (Name := ℕ) (U := UAll) (Lvl := ℕ) (ℓ := (c : Thread nD τ).loc cc0_scratch1) (q := fullShare) (f := f)
    slots_disjoint
  have e : (((c : Thread nD τ).loc cc0_scratch1) ↦{fullShare} f : sProp 𝕄)
      = (((c : Thread nD τ).loc cc0_scratch1) ↦[(slotM 0).view.set ∪ (slotM 1).view.set]{fullShare} f) := by rw [slots_cover]
  rw [e]; exact BI.equiv_iff.mp ⟨h.1, h.2⟩

/-! ## The schedule -/

/-- What a semaphore is for. -/
inductive Role | bar | send (k : Fin 2) | recv (k : Fin 2) | none
deriving DecidableEq

/-- The part that a semaphore plays. -/
def role (sm : SemLoc sig) : Role :=
  if sm = .reg barQ then .bar else if sm = .dma (sendQ 0) then .send 0 else if sm = .dma (sendQ 1) then .send 1
  else if sm = .dma (recvQ 0) then .recv 0 else if sm = .dma (recvQ 1) then .recv 1 else .none

/-- The barrier's semaphore, the sends' and the receives' play their parts. -/
theorem role_bar : role (.reg barQ) = .bar := by decide
theorem role_send (k : Fin 2) : role (.dma (sendQ k)) = .send k := by revert k; decide
theorem role_recv (k : Fin 2) : role (.dma (recvQ k)) = .recv k := by revert k; decide

/-- Barrier duty `k` of device `c`: slot `k` of the device that `c`'s copy `k` goes to, and its receive cell at round 0. -/
def grant (c : Dev nD) (k : Fin 2) : sProp 𝕄 :=
  iprop((∃ f, slotPts k (peer k c) f) ∗ reached EDir (recvCell k (peer k c)) 0)

/-- The payload of a cell's duty `d`, by what the cell is for. -/
def payOf (c : Dev nD) (d : Fin 2) : Role → sProp 𝕄
  | .bar => grant c d
  | .send k => sentPts m (lent k) c
  | .recv k => slotPts k c (got m c)
  | .none => iprop(emp)

/-- The duties of a cell, by the part that it plays. -/
def dutiesOf : Role → Finset (Fin 2)
  | .bar => Finset.univ
  | .send _ => {0}
  | .recv _ => {0}
  | .none => ∅

/-- The schedule: each cell's duties in its one round, their amounts and what they hand over. -/
def plan : Rounds.Schedule (GSem nD τ sig) (Fin 2) 𝕄 where
  duties g r := if r = 0 ∧ g.1.2 = .tc then dutiesOf (role g.2) else ∅
  unitless _ := False
  amount g _ _ := if role g.2 = .bar then 1 else bytes
  payload g _ d := payOf m g.1.1 d (role g.2)
  amount_pos g _ _ _ := by
    by_cases h : role g.2 = .bar
    · rw [if_pos h]; exact Nat.one_pos
    · rw [if_neg h]; exact bytes_pos

/-- All that is handed over may be kept in a cell. -/
instance plan_payload_storable (g : GSem nD τ sig) (r : ℕ) (d : Fin 2) :
    BI.Storable (upEmb : UEmb _ 𝕄) ((plan (F := F) m).payload g r d) := by
  show BI.Storable upEmb (payOf m g.1.1 d (role g.2))
  cases role g.2 <;> (unfold payOf; try unfold grant) <;> infer_instance

section Sched
variable (c : Dev nD) (k : Fin 2)

/-- The duties of the three sorts of cells, and none after the first round. -/
theorem duties_bar : (plan (F := F) m).duties (barCell c) 0 = Finset.univ :=
  by dsimp only [plan]; rw [if_pos ⟨rfl, rfl⟩]; exact congrArg dutiesOf role_bar
theorem duties_send : (plan (F := F) m).duties (sendCell k c) 0 = {0} :=
  by dsimp only [plan]; rw [if_pos ⟨rfl, rfl⟩]; exact congrArg dutiesOf (role_send k)
theorem duties_recv : (plan (F := F) m).duties (recvCell k c) 0 = {0} :=
  by dsimp only [plan]; rw [if_pos ⟨rfl, rfl⟩]; exact congrArg dutiesOf (role_recv k)
theorem duties_done (g : GSem nD τ sig) : ∀ r, 1 ≤ r → (plan (F := F) m).duties g r = ∅ :=
  fun r hr => if_neg fun h => by have := h.1; omega

/-- The amounts of the duties. -/
theorem amount_bar (d : Fin 2) : (plan (F := F) m).amount (barCell c) 0 d = 1 := by
  show (if role (.reg barQ) = .bar then 1 else bytes) = 1; exact if_pos role_bar
theorem amount_send (d : Fin 2) : (plan (F := F) m).amount (sendCell k c) 0 d = bytes :=
  if_neg fun h => by rw [role_send] at h; cases h
theorem amount_recv (d : Fin 2) : (plan (F := F) m).amount (recvCell k c) 0 d = bytes :=
  if_neg fun h => by rw [role_recv] at h; cases h

/-- What a round brings in all. -/
theorem expect_bar : (plan (F := F) m).expect (barCell c) 0 = 2 := by
  unfold Schedule.expect Schedule.amountOf
  rw [duties_bar, Finset.sum_congr rfl fun d _ => amount_bar m c d]; rfl
theorem expect_send : (plan (F := F) m).expect (sendCell k c) 0 = bytes := by
  unfold Schedule.expect Schedule.amountOf; rw [duties_send, Finset.sum_singleton, amount_send]
theorem expect_recv : (plan (F := F) m).expect (recvCell k c) 0 = bytes := by
  unfold Schedule.expect Schedule.amountOf; rw [duties_recv, Finset.sum_singleton, amount_recv]

/-- What a duty hands over. -/
theorem payload_bar (d : Fin 2) : (plan (F := F) m).payload (barCell c) 0 d = grant c d := by
  show payOf m c d (role (.reg barQ)) = _; rw [role_bar]; rfl
theorem payload_send (d : Fin 2) : (plan (F := F) m).payload (sendCell k c) 0 d = sentPts m (lent k) c := by
  show payOf m c d (role (.dma (sendQ k))) = _; rw [role_send]; rfl
theorem payload_recv (d : Fin 2) : (plan (F := F) m).payload (recvCell k c) 0 d = slotPts k c (got m c) := by
  show payOf m c d (role (.dma (recvQ k))) = _; rw [role_recv]; rfl

/-- Two things together, one by one. -/
theorem bigSep_two (Φ : Fin 2 → sProp 𝕄) : bigSep Finset.univ Φ = iprop(Φ 0 ∗ Φ 1) :=
  bigSep_univ_eq_bigSepL [0, 1] (by decide) (by decide) Φ

/-- What a whole round hands over. -/
theorem rest_bar : bigSep ((plan (F := F) m).duties (barCell c) 0 \ ∅) (fun d => (plan (F := F) m).payload (barCell c) 0 d) = iprop(grant c 0 ∗ grant c 1) := by
  rw [Finset.sdiff_empty, duties_bar, bigSep_two, payload_bar, payload_bar]
theorem rest_send : bigSep ((plan (F := F) m).duties (sendCell k c) 0 \ ∅) (fun d => (plan (F := F) m).payload (sendCell k c) 0 d) = sentPts m (lent k) c := by
  rw [Finset.sdiff_empty, duties_send, bigSep_singleton, payload_send]
theorem rest_recv : bigSep ((plan (F := F) m).duties (recvCell k c) 0 \ ∅) (fun d => (plan (F := F) m).payload (recvCell k c) 0 d) = slotPts k c (got m c) := by
  rw [Finset.sdiff_empty, duties_recv, bigSep_singleton, payload_recv]

end Sched

/-! ## What a device owes when it starts, and the levels that order the waits -/

/-- After both signals and copy 0; after both signals; after the first signal; at the start. -/
def owed₃ (c : Dev nD) : CellTallies nD τ sig Unit := tallyAt (recvCell 1 (peer 1 c)) () bytes
def owed₂ (c : Dev nD) : CellTallies nD τ sig Unit := owed₃ c + tallyAt (recvCell 0 (peer 0 c)) () bytes
def owed₁ (c : Dev nD) : CellTallies nD τ sig Unit := owed₂ c + tallyAt (barCell (peer 0 c)) () 1
def owed₀ (c : Dev nD) : CellTallies nD τ sig Unit := owed₁ c + tallyAt (barCell (peer 1 c)) () 1

/-- Only the devices' own threads are owed anything. -/
def Lbl (g : GSem nD τ sig) : Finset Unit := if g.1.2 = .tc then {()} else ∅
/-- The level of a wait, by the part that its semaphore plays: a receive above the barrier, the barrier above a send. -/
def rankOf : Role → ℕ
  | .bar => 1
  | .recv _ => 2
  | .send _ => 0
  | .none => 0
/-- The level of a cell. -/
def lvl (g : GSem nD τ sig) (_ : Unit) : ℕ := rankOf (role g.2)

/-- No other thread is owed, -/
theorem Lbl_off (g : GSem nD τ sig) (h : g.1.2 ≠ .tc) : Lbl g = ∅ := if_neg h
/-- while each device's thread is. -/
theorem Lbl_tc (c : Dev nD) (sm : SemLoc sig) : Lbl ((c : Thread nD τ), sm) = {()} := if_pos rfl

/-- What a device owes at the start, cell by cell. -/
theorem owed₀_apply (d : Dev nD) (g : GSem nD τ sig) (u : Unit) : owed₀ d g u
    = (((if g = recvCell 1 (peer 1 d) then bytes else 0) + (if g = recvCell 0 (peer 0 d) then bytes else 0)) + (if g = barCell (peer 0 d) then 1 else 0))
      + (if g = barCell (peer 1 d) then 1 else 0) := by
  unfold owed₀ owed₁ owed₂ owed₃
  simp only [Pi.add_apply, Finsupp.add_apply, tallyAt_apply, and_true]

/-- What it owes after its signals, cell by cell. -/
theorem owed₂_apply (d : Dev nD) (g : GSem nD τ sig) (u : Unit) : owed₂ d g u
    = (if g = recvCell 1 (peer 1 d) then bytes else 0) + (if g = recvCell 0 (peer 0 d) then bytes else 0) := by
  unfold owed₂ owed₃
  simp only [Pi.add_apply, Finsupp.add_apply, tallyAt_apply, and_true]

/-- What is owed after the signals is owed to receive cells. -/
theorem owed₂_pos {c : Dev nD} {g : GSem nD τ sig} {u : Unit} (h : 0 < owed₂ c g u) : ∃ k, g = recvCell k (peer k c) := by
  by_contra hn
  rw [not_exists] at hn
  rw [owed₂_apply, if_neg (hn 1), if_neg (hn 0)] at h
  exact Nat.lt_irrefl 0 h

/-- What is owed at the start is owed to receive cells and barrier cells. -/
theorem owed₀_pos {c : Dev nD} {g : GSem nD τ sig} {u : Unit} (h : 0 < owed₀ c g u) :
    (∃ k, g = recvCell k (peer k c)) ∨ ∃ k, g = barCell (peer k c) := by
  by_contra hn
  rw [not_or, not_exists, not_exists] at hn
  rw [owed₀_apply, if_neg (hn.1 1), if_neg (hn.1 0), if_neg (hn.2 0), if_neg (hn.2 1)] at h
  exact Nat.lt_irrefl 0 h

/-- At its barrier wait a device owes transfers only, and these are above the barrier. -/
theorem mayWait_bar (c : Dev nD) : (levAts Lbl lvl : sProp 𝕄) ⊢ MayWait (c : Thread nD τ) (.reg barQ) () (owed₂ c) :=
  MayOwe.of_cut (L := Lbl) (lev := lvl) 1 (fun p hp => by rw [Finset.mem_singleton.mp hp, Lbl_tc]; exact Finset.mem_singleton_self _)
    (fun g u hg => by obtain ⟨k, rfl⟩ := owed₂_pos hg; exact Finset.mem_singleton_self _)
    (fun p hp => by rw [Finset.mem_singleton.mp hp]; show rankOf (role (.reg barQ)) ≤ 1; rw [role_bar]; decide)
    (fun g u hg => by
      obtain ⟨k, rfl⟩ := owed₂_pos hg
      show 1 < rankOf (role (.dma (recvQ k))); rw [role_recv]; exact Nat.lt_succ_self 1)

/-- A wait on a semaphore of no role may be made at any time: everything owed is above it. -/
theorem mayWait_stage (c : Dev nD) (q : DmaSem sig) (hq : role (.dma q) = .none) (O : CellTallies nD τ sig Unit) (hO : O = owed₀ c ∨ O = 0) :
    (levAts Lbl lvl : sProp 𝕄) ⊢ MayWait (c : Thread nD τ) (.dma q) () O := by
  rcases hO with rfl | rfl
  · refine MayOwe.of_cut (L := Lbl) (lev := lvl) 0 (fun p hp => by rw [Finset.mem_singleton.mp hp, Lbl_tc]; exact Finset.mem_singleton_self _)
      (fun g u hg => by rcases owed₀_pos hg with ⟨k, rfl⟩ | ⟨k, rfl⟩ <;> exact Finset.mem_singleton_self _)
      (fun p hp => by rw [Finset.mem_singleton.mp hp]; show rankOf (role (.dma q)) ≤ 0; rw [hq]; decide)
      (fun g u hg => by
        rcases owed₀_pos hg with ⟨k, rfl⟩ | ⟨k, rfl⟩
        · show 0 < rankOf (role (.dma (recvQ k))); rw [role_recv]; exact Nat.succ_pos 1
        · show 0 < rankOf (role (.reg barQ)); rw [role_bar]; decide)
  · rw [MayWait_zero]; iintro -; iempintro

/-! ## The ghost state of a device -/

/-- The cells of a device, numbered: the barrier, the two send cells, the two receive cells. -/
abbrev spot : Fin 5 → SemLoc sig := fun | 0 => .reg barQ | 1 => .dma (sendQ 0) | 2 => .dma (sendQ 1) | 3 => .dma (recvQ 0) | 4 => .dma (recvQ 1)
/-- A device's cell. -/
abbrev spotCell (ck : Dev nD × Fin 5) : GSem nD τ sig := ((ck.1 : Thread nD τ), spot ck.2)
/-- The places of the send and receive cells among the five. -/
abbrev sIx : Fin 2 → Fin 5 := fun | 0 => 1 | 1 => 2
abbrev rIx : Fin 2 → Fin 5 := fun | 0 => 3 | 1 => 4
/-- They are the semaphores' own. -/
theorem spot_s (k : Fin 2) : spot (sIx k) = .dma (sendQ k) := by revert k; decide
theorem spot_r (k : Fin 2) : spot (rIx k) = .dma (recvQ k) := by revert k; decide

variable (K : Dev nD × Fin 5 → ℕ)

/-- What device `c` knows about direction `k`: the invariants of the cells that it touches there, and that none of them
    has passed round 0 without it. -/
def dirKnow (k : Fin 2) (c : Dev nD) : sProp 𝕄 :=
  iprop((cellInv EDir (plan m) (K (c, sIx k)) (sendCell k c) ∗ cellInv EDir (plan m) (K (c, rIx k)) (recvCell k c)
      ∗ cellInv EDir (plan m) (K (peer k c, 0)) (barCell (peer k c)) ∗ cellInv EDir (plan m) (K (peer k c, rIx k)) (recvCell k (peer k c)))
    ∗ reached EDir (barCell (peer k c)) 0 ∗ reached EDir (recvCell k (peer k c)) 0 ∗ reached EDir (sendCell k c) 0 ∗ reached EDir (recvCell k c) 0)
/-- It stays known. -/
instance dirKnow_persistent (k : Fin 2) (c : Dev nD) : BI.Persistent (dirKnow m K k c) := by unfold dirKnow; infer_instance

/-- The duties that device `c` pays in direction `k`. -/
def dirDuty (k : Fin 2) (c : Dev nD) : sProp 𝕄 :=
  iprop(dutyTok EDir (barCell (peer k c)) 0 (opp k) ∗ dutyTok EDir (recvCell k (peer k c)) 0 0 ∗ dutyTok EDir (sendCell k c) 0 0)

/-- Its positions on its own cells of direction `k`. -/
def dirPos (k : Fin 2) (c : Dev nD) : sProp 𝕄 :=
  iprop(atPos EDir (sendCell k c) 0 ∅ 0 ∗ atPos EDir (recvCell k c) 0 ∅ 0)

/-- What a device knows of its own barrier cell. -/
def barKnow (c : Dev nD) : sProp 𝕄 := cellInv EDir (plan m) (K (c, 0)) (barCell c)
instance barKnow_persistent (c : Dev nD) : BI.Persistent (barKnow m K c) := by unfold barKnow; infer_instance

/-- All the ghost state that the body takes. -/
def ghost (c : Dev nD) : sProp 𝕄 :=
  iprop((barKnow m K c ∗ dirKnow m K 0 c ∗ dirKnow m K 1 c)
    ∗ atPos EDir (barCell c) 0 ∅ 0 ∗ (dirPos 0 c ∗ dirPos 1 c) ∗ (dirDuty 0 c ∗ dirDuty 1 c))

/-- The credits a device waits with, and the levels. -/
def credits (c : Dev nD) : sProp 𝕄 :=
  iprop(cred (tallyAt (barCell c) () 2) ∗ cred (tallyAt (recvCell 0 c) () bytes) ∗ cred (tallyAt (recvCell 1 c) () bytes) ∗ levAts Lbl lvl)

/-! ## The two transfers and the four transfer waits -/

/-- Copy `k`: the share `lent k` of `kv_send`, to slot `k` of `n = peer k c`. -/
theorem wp_copy (k : Fin 2) (c n : Dev nD) (hn : n = peer k c)
    {hsc : (slotM k : Memref sig (Dev.tc n : Thread nD τ).2.kind .vmem S2x2x4x128x64 .bf16).view.ref.isScScratch = false}
    {hsrc : (sendM : Memref sig .tc .vmem S2x2x4x128x64 .bf16).view.WordExact} {hdst : (slotM k : Memref sig .tc .vmem S2x2x4x128x64 .bf16).view.WordExact}
    {hsem : DmaTarget.Typed .vmem (.dma (recvQ k)) (.remote (Dev.tc n : Thread nD τ) (slotM k : Memref sig .tc .vmem S2x2x4x128x64 .bf16) (.dma (sendQ k)) hsc)}
    {α : Type} {Q : α → sProp 𝕄} {kt : PUnit → Prog (TpuEff nD τ sig (Elt F) Λ₀ .tc) α}
    (f : Buf (Elt F) ((slotM k).view.loc (peer k c : Thread nD τ))) (O O' : CellTallies nD τ sig Unit)
    (hO : O = O' + tallyAt (recvCell k (peer k c)) () bytes) (W : Waits sig Unit) :
    iprop(dirKnow m K k c ∗ sentPts m (lent k) c ∗ slotPts k (peer k c) f ∗ owes (c : Thread nD τ) O W
        ∗ dutyTok EDir (recvCell k (peer k c)) 0 0 ∗ dutyTok EDir (sendCell k c) 0 0)
      ⊢ iprop(((cred (tallyAt (sendCell k c) () bytes) ∗ owes (c : Thread nD τ) O' W) -∗ wp frame (wpE (defs₀ (F := F)) Variants.none (c : Thread nD τ) none) Set.univ (kt ⟨⟩) Q)
          -∗ wp frame (wpE (defs₀ (F := F)) Variants.none (c : Thread nD τ) none) Set.univ
              (.op (.enqueueDma sendM (.remote (Dev.tc n : Thread nD τ) (slotM k) (.dma (sendQ k)) hsc) (.dma (recvQ k)) hsrc hdst hsem) kt) Q) := by
  subst hn
  unfold dirKnow
  iintro ⟨⟨⟨#HIs, -, -, #HIr⟩, -, #HRr, #HRs, -⟩, Hs, Hf, HO, Htr, Hts⟩
  unfold sentPts slotPts
  iapply (Rounds.wp_send_pointsTo Variants.none EDir (plan m) (c : Thread nD τ) none (κ₁ := K (c, sIx k)) (κ₂ := K (peer k c, rIx k))
    (r₁ := 0) (r₂ := 0) (d₁ := 0) (d₂ := 0) (fd := f)
    (by rw [duties_send m c k]; exact Finset.mem_singleton_self _) (by rw [duties_recv m (peer k c) k]; exact Finset.mem_singleton_self _)
    () () bytes (by fin_cases k <;> rfl) (amount_send m c k 0) (amount_recv m (peer k c) k 0) O' hO (W := W)
    (by rw [payload_send]; exact BI.Entails.refl _)
    (by
      rw [payload_recv]; unfold slotPts
      refine Entails.of_eq (pointsTo_congr fun i hi => ?_)
      have h := landed_eq m k (peer k c) f i hi
      rw [opp_peer] at h
      exact h)) $$ [Hs Hf HO Htr Hts]
  isplitr; · iexact HIs
  isplitr; · iexact HIr
  isplitl [Hs]; · iexact Hs
  isplitl [Hf]; · iexact Hf
  isplitl [HO]; · iexact HO
  isplitl [Hts]; · iexact Hts
  isplitr; · iexact HRs
  isplitl [Htr]; · iexact Htr
  iexact HRr

/-- The wait for copy `k`'s source: the lent share back. -/
theorem wp_wait_send (k : Fin 2) (c : Dev nD) (W : Waits sig Unit)
    {src dst : Memref sig .tc .vmem S2x2x4x128x64 .bf16} {hsrc : src.view.WordExact} {hdst : dst.view.WordExact} (hN : dst.view.dmaCredit = bytes)
    {α : Type} {Q : α → sProp 𝕄} {kt : PUnit → Prog (TpuEff nD τ sig (Elt F) Λ₀ .tc) α} :
    iprop(dirKnow m K k c ∗ cred (tallyAt (sendCell k c) () bytes) ∗ owes (c : Thread nD τ) 0 W ∗ atPos EDir (sendCell k c) 0 ∅ 0)
      ⊢ iprop(((owes (c : Thread nD τ) 0 (insert (SemLoc.dma (sendQ k), ()) W) ∗ atPos EDir (sendCell k c) (0 + 1) ∅ 0
            ∗ sentPts m (lent k) c) -∗ wp frame (wpE (defs₀ (F := F)) Variants.none (c : Thread nD τ) none) Set.univ (kt ⟨⟩) Q)
          -∗ wp frame (wpE (defs₀ (F := F)) Variants.none (c : Thread nD τ) none) Set.univ (.op (.waitDma2 (sendQ k) src dst hsrc hdst) kt) Q) := by
  unfold dirKnow
  iintro ⟨⟨⟨#HI, -⟩, -⟩, Hc, HO, Hat⟩ Hk
  iapply (Rounds.wp_wait_rest_token Variants.none EDir (plan m) (c : Thread nD τ) none (κ := K (c, sIx k))
      (wpE_waitDma2_eq Variants.none (c : Thread nD τ) none Set.univ) (Set.mem_univ _) () (O := 0) (W := W) (R := 0) (m := 0) (T := ∅)
      (by rw [Nat.zero_add, hN, expect_send m c k])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send m c k)); iexact Hpay

/-- The wait for the arrival in slot `k`: the slot, holding what the neighbour sent. -/
theorem wp_wait_recv (k : Fin 2) (c : Dev nD) (W : Waits sig Unit)
    {src dst : Memref sig .tc .vmem S2x2x4x128x64 .bf16} {hsrc : src.view.WordExact} {hdst : dst.view.WordExact} (hN : dst.view.dmaCredit = bytes)
    {α : Type} {Q : α → sProp 𝕄} {kt : PUnit → Prog (TpuEff nD τ sig (Elt F) Λ₀ .tc) α} :
    iprop(dirKnow m K k c ∗ cred (tallyAt (recvCell k c) () bytes) ∗ owes (c : Thread nD τ) 0 W ∗ atPos EDir (recvCell k c) 0 ∅ 0)
      ⊢ iprop(((owes (c : Thread nD τ) 0 (insert (SemLoc.dma (recvQ k), ()) W) ∗ atPos EDir (recvCell k c) (0 + 1) ∅ 0
            ∗ slotPts k c (got m c)) -∗ wp frame (wpE (defs₀ (F := F)) Variants.none (c : Thread nD τ) none) Set.univ (kt ⟨⟩) Q)
          -∗ wp frame (wpE (defs₀ (F := F)) Variants.none (c : Thread nD τ) none) Set.univ (.op (.waitDma2 (recvQ k) src dst hsrc hdst) kt) Q) := by
  unfold dirKnow
  iintro ⟨⟨⟨-, #HI, -⟩, -⟩, Hc, HO, Hat⟩ Hk
  iapply (Rounds.wp_wait_rest_token Variants.none EDir (plan m) (c : Thread nD τ) none (κ := K (c, rIx k))
      (wpE_waitDma2_eq Variants.none (c : Thread nD τ) none Set.univ) (Set.mem_univ _) () (O := 0) (W := W) (R := 0) (m := 0) (T := ∅)
      (by rw [Nat.zero_add, hN, expect_recv m c k])) $$ [Hc HO Hat]
  · isplitr; · iexact HI
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_recv m c k)); iexact Hpay

/-- The signal to `peer k c`: `c` gives that device its slot `opp k`. -/
theorem wp_give (k : Fin 2) (c n : Dev nD) (hn : n = peer k c) (f : (cc0_scratch1 : Ref sig .tc).ty.Contents (Elt F)) (O O' : CellTallies nD τ sig Unit)
    (hO : O = O' + tallyAt (barCell (peer k c)) () 1) (W : Waits sig Unit)
    {α : Type} {Q : α → sProp 𝕄} {kt : PUnit → Prog (TpuEff nD τ sig (Elt F) Λ₀ .tc) α} :
    iprop(dirKnow m K k c ∗ dirKnow m K (opp k) c ∗ owes (c : Thread nD τ) O W ∗ dutyTok EDir (barCell (peer k c)) 0 (opp k) ∗ slotPts (opp k) c f)
      ⊢ iprop((owes (c : Thread nD τ) O' W -∗ wp frame (wpE (defs₀ (F := F)) Variants.none (c : Thread nD τ) none) Set.univ (kt ⟨⟩) Q)
          -∗ wp frame (wpE (defs₀ (F := F)) Variants.none (c : Thread nD τ) none) Set.univ (.op (.semSignal (n : Thread nD τ) barQ ((1#32 : BitVec 32).toNat)) kt) Q) := by
  subst hn
  unfold dirKnow
  iintro ⟨⟨⟨-, -, #HI, -⟩, #HR, -⟩, ⟨-, -, -, -, #Hr⟩, HO, Ht, Hs⟩ Hk
  iapply (Rounds.wp_signal Variants.none EDir (plan m) (c : Thread nD τ) none (dst := (peer k c : Thread nD τ)) (κ := K (peer k c, 0))
      (d := opp k) (by rw [duties_bar]; exact Finset.mem_univ _) ((amount_bar m (peer k c) (opp k)).trans (by decide)) () O' hO)
    $$ [HO Ht Hs]
  · isplitr; · iexact HI
    isplitl [HO]; · iexact HO
    isplitl [Ht]; · iexact Ht
    isplitl [Hs]
    · rw [payload_bar]; unfold grant; rw [opp_peer]
      isplitl [Hs]; · iexists f; iexact Hs
      iexact Hr
    · iexact HR
  iintro HO
  iapply Hk
  iexact HO

end Cert.KernelIdeal.Run

end
-- ==== Proof.Ideal.Body.lean ====
/-
# The body of the kernel, executed symbolically
-/
module

public import proofs.«01_k».proof.Proof.Ideal.Rounds

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAll ℕ

variable (m : (ℓ : Loc nD τ sig) → Buf (Elt F) ℓ)

/-! ## What a device computes -/

/-- The device number, and the numbers of its left and of its right neighbour, as the kernel computes them. -/
abbrev wMe (c : Dev nD) : BitVec 32 := Scalar.remsi (Scalar.divsi (Dev.word c) 1#32) 16#32
/-- The left neighbour's number. -/
abbrev wLeft (c : Dev nD) : BitVec 32 := Scalar.remsi (Scalar.addi (Scalar.subi (wMe c) 1#32) 16#32) 16#32
/-- The right neighbour's number. -/
abbrev wRight (c : Dev nD) : BitVec 32 := Scalar.remsi (Scalar.addi (wMe c) 1#32) 16#32
/-- The row's number within a block of scores. -/
abbrev rowIx : IVec S1x128x128 32 := iota .tc S1x128x128 32 [1] iota_S1x128x128_d1_w32
/-- The column's number within a block of scores. -/
abbrev colIx : IVec S1x128x128 32 := iota .tc S1x128x128 32 [2] iota_S1x128x128_d2_w32

/-- A read of `kv_send`: part `a` (keys, values) of batch entry `b`. -/
abbrev ownAt (c : Dev nD) (off : Fin 5 → ℕ) (h : ∀ a, off a + S1x1x4x128x64.size a ≤ S2x2x4x128x64.size a) : Vec F S1x1x4x128x64 .bf16 :=
  (sendM : Memref sig .tc .vmem S2x2x4x128x64 .bf16).view.readAt (Elt F) (Rect.unit (s := S2x2x4x128x64) off S1x1x4x128x64.size h).toLoadRect (sent m c)
/-- A read of `kv_win`: part of a batch entry of a slot. -/
abbrev winAt (c : Dev nD) (off : Fin 6 → ℕ) (h : ∀ a, off a + S1x1x1x4x128x64.size a ≤ S2x2x2x4x128x64.size a) : Vec F S1x1x1x4x128x64 .bf16 :=
  (winM : Memref sig .tc .vmem S2x2x2x4x128x64 .bf16).view.readAt (Elt F) (Rect.unit (s := S2x2x2x4x128x64) off S1x1x1x4x128x64.size h).toLoadRect (got m c)

/-- The quotient of the accumulated context by the accumulated weights, over all three blocks. -/
def ctxAt (c : Dev nD) : FVec F S2x128x4x64 .f32 :=
  let q := k0_pay4 (xBlk m c) (wqBlk m c)
  let q0 := k0_pay5 (xBlk m c) (wqBlk m c)
  let k0 := ownAt m c ![0, 0, 0, 0, 0] inb_S2x2x4x128x64_S1x1x4x128x64_0_0_0_0_0
  let u0 := ownAt m c ![1, 0, 0, 0, 0] inb_S2x2x4x128x64_S1x1x4x128x64_1_0_0_0_0
  let k1 := ownAt m c ![0, 1, 0, 0, 0] inb_S2x2x4x128x64_S1x1x4x128x64_0_1_0_0_0
  let u1 := ownAt m c ![1, 1, 0, 0, 0] inb_S2x2x4x128x64_S1x1x4x128x64_1_1_0_0_0
  let kL0 := winAt m c ![0, 0, 0, 0, 0, 0] inb_S2x2x2x4x128x64_S1x1x1x4x128x64_0_0_0_0_0_0
  let uL0 := winAt m c ![0, 1, 0, 0, 0, 0] inb_S2x2x2x4x128x64_S1x1x1x4x128x64_0_1_0_0_0_0
  let kL1 := winAt m c ![0, 0, 1, 0, 0, 0] inb_S2x2x2x4x128x64_S1x1x1x4x128x64_0_0_1_0_0_0
  let uL1 := winAt m c ![0, 1, 1, 0, 0, 0] inb_S2x2x2x4x128x64_S1x1x1x4x128x64_0_1_1_0_0_0
  let kR0 := winAt m c ![1, 0, 0, 0, 0, 0] inb_S2x2x2x4x128x64_S1x1x1x4x128x64_1_0_0_0_0_0
  let uR0 := winAt m c ![1, 1, 0, 0, 0, 0] inb_S2x2x2x4x128x64_S1x1x1x4x128x64_1_1_0_0_0_0
  let kR1 := winAt m c ![1, 0, 1, 0, 0, 0] inb_S2x2x2x4x128x64_S1x1x1x4x128x64_1_0_1_0_0_0
  let uR1 := winAt m c ![1, 1, 1, 0, 0, 0] inb_S2x2x2x4x128x64_S1x1x1x4x128x64_1_1_1_0_0_0
  let wL0 := k0_pay13 (wMe c) (wLeft c) q rowIx colIx kL0
  k0_pay22 q (k0_pay14 (k0_pay7 q0 k0) wL0) (k0_pay15 (k0_pay8 q0 k0 u0) wL0 uL0)
    (k0_pay17 q (k0_pay10 q k1) (k0_pay12 (wMe c) (wLeft c) rowIx colIx) kL1)
    (k0_pay18 q (k0_pay11 q k1 u1) (k0_pay12 (wMe c) (wLeft c) rowIx colIx) kL1 uL1)
    (k0_pay19 (wMe c) (wRight c) rowIx colIx) (k0_pay20 (wMe c) (wRight c) q rowIx colIx kR0) (k0_pay21 (wMe c) (wRight c) q rowIx colIx kR0)
    uR0 kR1 uR1

/-- The block that device `c` stores. -/
def outAt (c : Dev nD) : (cc0_stg5_0 : Ref sig .tc).ty.Contents (Elt F) := k0_pay1 (ctxAt m c) (woBlk m c)

/-! ## The proof data of the launch -/

/-- Before the body: the ghost state, the credits, both scratch buffers at anything. -/
def phi₀ (c : Dev nD) : sProp 𝕄 :=
  iprop((∃ K, ghost m K c) ∗ credits c ∗ (∃ f, (((c : Thread nD τ).loc cc0_scratch0) ↦{fullShare} f)) ∗ (∃ f, (((c : Thread nD τ).loc cc0_scratch1) ↦{fullShare} f)))
/-- After it: both scratch buffers, and the five counters at zero. -/
def phi₁ (c : Dev nD) : sProp 𝕄 :=
  iprop((((c : Thread nD τ).loc cc0_scratch0) ↦{fullShare} sent m c) ∗ (((c : Thread nD τ).loc cc0_scratch1) ↦{fullShare} got m c)
    ∗ semVal (barCell c) 0 ∗ semVal (sendCell 0 c) 0 ∗ semVal (sendCell 1 c) 0 ∗ semVal (recvCell 0 c) 0 ∗ semVal (recvCell 1 c) 0)

/-- The arrays, the blocks after the body, what the body takes and gives back, and what a device owes. -/
def dats (_ : Fin 1) (c : Dev nD) : Dat τ (Elt F) Unit ℕ UAll ℕ cfg0 c where
  A w := m ((cfg0.win w).arr.view.loc (c : Thread nD τ))
  after w _ := match w with
    | ⟨0, _⟩ => xBlk m c
    | ⟨1, _⟩ => wqBlk m c
    | ⟨2, _⟩ => kBlk m c
    | ⟨3, _⟩ => vBlk m c
    | ⟨4, _⟩ => woBlk m c
    | ⟨5, _⟩ => outAt m c
  Φ t := match t with
    | ⟨0, _⟩ => phi₀ m c
    | ⟨_ + 1, _⟩ => phi₁ m c
  q _ := fullShare
  owed t := match t with
    | ⟨0, _⟩ => owed₀ c
    | ⟨_ + 1, _⟩ => 0

/-- A buffer whole at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Owning a whole buffer is holding it at some contents equal to what is said. -/
theorem owns_held (c : Dev nD) (b : Ref sig .tc) (X : b.ty.Contents (Elt F)) :
    (owns (Ix := Unit) (Name := ℕ) (U := UAll) (Lvl := ℕ) (c : Thread nD τ) (Memref.whole b) fullShare X : sProp 𝕄) = held c b X := by
  unfold owns held; simp only [Memref.view_whole, View.read_whole, View.set_whole]

/-! ## Reads and writes of whole buffers; reads of a slot -/

/-- Offsets of zero, of two axes, of three and of four. -/
theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

/-- A load of the whole input block reads the block, and so do the loads of the other four arguments. -/
theorem rd_x (f) : (Memref.whole cc0_stg0_0 : Memref sig .tc .vmem S2x128x512 .bf16).view.readAt (Elt F)
    (Rect.unit (s := S2x128x512) ![0, 0, 0] S2x128x512.size inb_S2x128x512_S2x128x512_0_0_0).toLoadRect f = f := Memref.readAt_unit_zero (Elt F) cc0_stg0_0 z3 _ _
theorem rd_wq (f) : (Memref.whole cc0_stg1_0 : Memref sig .tc .vmem S512x256 .bf16).view.readAt (Elt F)
    (Rect.unit (s := S512x256) ![0, 0] S512x256.size inb_S512x256_S512x256_0_0).toLoadRect f = f := Memref.readAt_unit_zero (Elt F) cc0_stg1_0 z2 _ _
theorem rd_k (f) : (Memref.whole cc0_stg2_0 : Memref sig .tc .vmem S2x128x4x64 .bf16).view.readAt (Elt F)
    (Rect.unit (s := S2x128x4x64) ![0, 0, 0, 0] S2x128x4x64.size inb_S2x128x4x64_S2x128x4x64_0_0_0_0).toLoadRect f = f := Memref.readAt_unit_zero (Elt F) cc0_stg2_0 z4 _ _
theorem rd_v (f) : (Memref.whole cc0_stg3_0 : Memref sig .tc .vmem S2x128x4x64 .bf16).view.readAt (Elt F)
    (Rect.unit (s := S2x128x4x64) ![0, 0, 0, 0] S2x128x4x64.size inb_S2x128x4x64_S2x128x4x64_0_0_0_0).toLoadRect f = f := Memref.readAt_unit_zero (Elt F) cc0_stg3_0 z4 _ _
theorem rd_wo (f) : (Memref.whole cc0_stg4_0 : Memref sig .tc .vmem S256x512 .bf16).view.readAt (Elt F)
    (Rect.unit (s := S256x512) ![0, 0] S256x512.size inb_S256x512_S256x512_0_0).toLoadRect f = f := Memref.readAt_unit_zero (Elt F) cc0_stg4_0 z2 _ _
/-- A store over the whole result block leaves what is stored. -/
theorem wr_out (f w : (cc0_stg5_0 : Ref sig .tc).ty.Contents (Elt F)) :
    ((Memref.whole cc0_stg5_0 : Memref sig .tc .vmem S2x128x512 .f32).access
      (Rect.unit (s := S2x128x512) ![0, 0, 0] S2x128x512.size inb_S2x128x512_S2x128x512_0_0_0) : View sig .tc _ _ _).write (Elt F) f w Finset.univ = w :=
  Memref.write_access_unit_zero_univ (Elt F) cc0_stg5_0 z3 _ f w

/-- A read at a corner whose first coordinate is `k` stays in slot `k`. -/
theorem rd_in_slot (k : Fin 2) (off : Fin 6 → ℕ) (h : ∀ a, off a + S1x1x1x4x128x64.size a ≤ S2x2x2x4x128x64.size a) (h0 : off 0 = k.val) :
    (winM : Memref sig .tc .vmem S2x2x2x4x128x64 .bf16).view.setOn (Rect.unit (s := S2x2x2x4x128x64) off S1x1x1x4x128x64.size h).toLoadRect.set ⊆ (slotM k).view.set := by
  intro i hi
  obtain ⟨x, hx, rfl⟩ := Finset.mem_map.mp hi
  obtain ⟨j, hj, e⟩ := (LoadRect.mem_set _).mp hx 0
  refine (mem_slot k _).mpr ?_
  have hj : j < 1 := hj
  have e : (x 0).val = off 0 + 1 * j := e
  show (x 0).val = k.val
  omega

/-- A slot held is its part of `kv_win` held. -/
theorem slotPts_eq (k : Fin 2) (c : Dev nD) (f : (cc0_scratch1 : Ref sig .tc).ty.Contents (Elt F)) :
    slotPts k c f = (((c : Thread nD τ).loc cc0_scratch1) ↦[(slotM k).view.set]{fullShare} f : sProp 𝕄) := rfl

/-- The wait for the three shares of `kv_send` back together. -/
theorem sent_join (c : Dev nD) : iprop(sentPts m (lent 0) c ∗ sentPts m (lent 1) c ∗ sentPts m kept c) ⊢ (((c : Thread nD τ).loc cc0_scratch0) ↦{fullShare} sent m c : sProp 𝕄) := by
  rw [sentPts_eq, sentPts_eq, sentPts_eq]; exact (sent_three c (sent m c)).2

/-- `kv_send` whole is the two shares that the copies borrow and the one that is kept. -/
theorem sent_split (c : Dev nD) : (((c : Thread nD τ).loc cc0_scratch0) ↦{fullShare} sent m c : sProp 𝕄) ⊢ iprop(sentPts m (lent 0) c ∗ sentPts m (lent 1) c ∗ sentPts m kept c) := by
  rw [sentPts_eq, sentPts_eq, sentPts_eq]; exact (sent_three c (sent m c)).1

variable (K : Dev nD × Fin 5 → ℕ)

/-- What the body starts from: the ghost state and credits, the two scratch buffers, the debt, the five staged operands
    and the result's staging buffer. -/
def bodyPre (c : Dev nD) (f0 : (cc0_scratch0 : Ref sig .tc).ty.Contents (Elt F)) (f1 : (cc0_scratch1 : Ref sig .tc).ty.Contents (Elt F))
    (f5 : (cc0_stg5_0 : Ref sig .tc).ty.Contents (Elt F)) (W : Waits sig Unit) : sProp 𝕄 :=
  iprop(ghost m K c ∗ credits c ∗ (((c : Thread nD τ).loc cc0_scratch0) ↦{fullShare} f0) ∗ (((c : Thread nD τ).loc cc0_scratch1) ↦{fullShare} f1)
    ∗ owes (c : Thread nD τ) (owed₀ c) W
    ∗ (((c : Thread nD τ).loc cc0_stg0_0) ↦{fullShare} xBlk m c) ∗ (((c : Thread nD τ).loc cc0_stg1_0) ↦{fullShare} wqBlk m c)
    ∗ (((c : Thread nD τ).loc cc0_stg2_0) ↦{fullShare} kBlk m c) ∗ (((c : Thread nD τ).loc cc0_stg3_0) ↦{fullShare} vBlk m c)
    ∗ (((c : Thread nD τ).loc cc0_stg4_0) ↦{fullShare} woBlk m c) ∗ (((c : Thread nD τ).loc cc0_stg5_0) ↦{fullShare} f5))

/-- What it leaves. -/
def bodyEnd (c : Dev nD) : sProp 𝕄 :=
  iprop(phi₁ m c ∗ (∃ W, owes (c : Thread nD τ) 0 W)
    ∗ (((c : Thread nD τ).loc cc0_stg0_0) ↦{fullShare} xBlk m c) ∗ (((c : Thread nD τ).loc cc0_stg1_0) ↦{fullShare} wqBlk m c)
    ∗ (((c : Thread nD τ).loc cc0_stg2_0) ↦{fullShare} kBlk m c) ∗ (((c : Thread nD τ).loc cc0_stg3_0) ↦{fullShare} vBlk m c)
    ∗ (((c : Thread nD τ).loc cc0_stg4_0) ↦{fullShare} woBlk m c) ∗ (((c : Thread nD τ).loc cc0_stg5_0) ↦{fullShare} outAt m c))

set_option maxHeartbeats 4000000 in
/-- The body, effect by effect. -/
theorem body_runs (c : Dev nD) (f0 : (cc0_scratch0 : Ref sig .tc).ty.Contents (Elt F)) (f1 : (cc0_scratch1 : Ref sig .tc).ty.Contents (Elt F))
    (f5 : (cc0_stg5_0 : Ref sig .tc).ty.Contents (Elt F)) (W : Waits sig Unit) (Kt : PUnit → sProp 𝕄) :
    iprop(bodyPre m K c f0 f1 f5 W ∗ (bodyEnd m c -∗ Kt ⟨⟩))
      ⊢ wp frame (wpE (defs₀ (F := F)) Variants.none c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, Prog.bind_assoc, wp_deviceId]
  simp only [sendQ0_is, sendQ1_is, recvQ0_is, recvQ1_is, slot0_is, slot1_is]
  unfold bodyPre ghost credits dirPos dirDuty
  iintro ⟨⟨⟨⟨#HKb, #HK0, #HK1⟩, Hab, ⟨⟨Has0, Har0⟩, Has1, Har1⟩, ⟨Htb0, Htr0, Hts0⟩, Htb1, Htr1, Hts1⟩, ⟨Hcb, Hcr0, Hcr1, #Hlev⟩, Hsd, Hwn, HO, Hx, Hwq, Hk, Hv, Hwo, Hout⟩, HK⟩
  -- the keys and the values laid in `kv_send`
  iapply (wp_load Variants.none (c : Thread nD τ) none Set.univ (m := Memref.whole cc0_stg2_0) (Finset.subset_univ _)) $$ Hk; iintro Hk
  rw [rd_k]
  iapply (wp_load Variants.none (c : Thread nD τ) none Set.univ (m := sendM) (Finset.subset_univ _)) $$ Hsd; iintro Hsd
  iapply (wp_store Variants.none (c : Thread nD τ) none Set.univ (m := sendM) (r := part0R) (Mk := Finset.univ) (Finset.subset_univ _)) $$ Hsd; iintro Hsd
  iapply (wp_load Variants.none (c : Thread nD τ) none Set.univ (m := Memref.whole cc0_stg3_0) (Finset.subset_univ _)) $$ Hv; iintro Hv
  rw [rd_v]
  iapply (wp_load Variants.none (c : Thread nD τ) none Set.univ (m := sendM) (Finset.subset_univ _)) $$ Hsd; iintro Hsd
  iapply (wp_store Variants.none (c : Thread nD τ) none Set.univ (m := sendM) (r := part1R) (Mk := Finset.univ) (Finset.subset_univ _)) $$ Hsd; iintro Hsd
  rw [laid_eq]
  -- both slots given away, one to either neighbour, by the two signals
  ihave Hwn2 := (Entails.of_eq (win_slots c f1)) $$ Hwn
  icases Hwn2 with ⟨Hf0, Hf1⟩
  iapply (wp_give m K 1 c _ (dev1_is c) f1 _ _ (show owed₀ c = owed₁ c + _ from rfl) W) $$ [HO Htb1 Hf0]
  · isplitr; · iexact HK1
    isplitr; · iexact HK0
    isplitl [HO]; · iexact HO
    isplitl [Htb1]; · iexact Htb1
    iexact Hf0
  iintro HO
  iapply (wp_give m K 0 c _ (dev2_is c) f1 _ _ (show owed₁ c = owed₂ c + _ from rfl) W) $$ [HO Htb0 Hf1]
  · isplitr; · iexact HK0
    isplitr; · iexact HK1
    isplitl [HO]; · iexact HO
    isplitl [Htb0]; · iexact Htb0
    iexact Hf1
  iintro HO
  -- the wait at the barrier: both slots that the copies will write come with it
  iapply (Rounds.wp_wait_rest_token Variants.none EDir (plan m) (c : Thread nD τ) none (κ := K (c, 0))
      (wpE_semWait_eq Variants.none (c : Thread nD τ) none Set.univ) (Set.mem_univ _) () (O := owed₂ c) (W := W) (R := 0) (m := 0) (T := ∅)
      (by rw [expect_bar]; decide)) $$ [Hcb HO Hab]
  · isplitr; · unfold barKnow; iexact HKb
    isplitl [Hcb]; · iexact Hcb
    isplitl [HO]; · iexact HO
    isplitr; · iapply (mayWait_bar c); iexact Hlev
    iexact Hab
  iintro ⟨HO, Hab, -, Hpay⟩
  ihave Hp2 := (Entails.of_eq (rest_bar m c)) $$ Hpay
  unfold grant
  icases Hp2 with ⟨⟨⟨%g0, Hg0⟩, -⟩, ⟨%g1, Hg1⟩, -⟩
  -- `kv_send` in three shares: one for either copy, one to read meanwhile
  ihave Hsd := (Entails.of_eq (show ((sendM.access part1R : View sig .tc _ _ _).loc (c : Thread nD τ) ↦{fullShare} sendOf (kBlk m c) (vBlk m c) : sProp 𝕄)
      = (((c : Thread nD τ).loc cc0_scratch0) ↦{fullShare} sent m c) from rfl)) $$ Hsd
  ihave Hs3 := (sent_split m c) $$ Hsd
  icases Hs3 with ⟨Hl0, Hl1, Hkp⟩
  iapply (wp_copy m K 0 c _ (dev3_is c) g0 _ _ (show owed₂ c = owed₃ c + _ from rfl) _) $$ [Hl0 Hg0 HO Htr0 Hts0]
  · isplitr; · iexact HK0
    isplitl [Hl0]; · iexact Hl0
    isplitl [Hg0]; · iexact Hg0
    isplitl [HO]; · iexact HO
    isplitl [Htr0]; · iexact Htr0
    iexact Hts0
  iintro ⟨Hcs0, HO⟩
  iapply (wp_copy m K 1 c _ (dev4_is c) g1 _ _ (show owed₃ c = 0 + _ by unfold owed₃; rw [zero_add]) _) $$ [Hl1 Hg1 HO Htr1 Hts1]
  · isplitr; · iexact HK1
    isplitl [Hl1]; · iexact Hl1
    isplitl [Hg1]; · iexact Hg1
    isplitl [HO]; · iexact HO
    isplitl [Htr1]; · iexact Htr1
    iexact Hts1
  iintro ⟨Hcs1, HO⟩
  -- the query projection and the own block
  iapply (wp_load Variants.none (c : Thread nD τ) none Set.univ (m := Memref.whole cc0_stg0_0) (Finset.subset_univ _)) $$ Hx; iintro Hx
  rw [rd_x]
  iapply (wp_load Variants.none (c : Thread nD τ) none Set.univ (m := Memref.whole cc0_stg1_0) (Finset.subset_univ _)) $$ Hwq; iintro Hwq
  rw [rd_wq]
  ihave Hkp := (Entails.of_eq (sentPts_eq m kept c)) $$ Hkp
  iapply (wp_load Variants.none (c : Thread nD τ) none Set.univ (m := sendM) (Finset.subset_univ _)) $$ Hkp; iintro Hkp
  iapply (wp_load Variants.none (c : Thread nD τ) none Set.univ (m := sendM) (Finset.subset_univ _)) $$ Hkp; iintro Hkp
  iapply (wp_load Variants.none (c : Thread nD τ) none Set.univ (m := sendM) (Finset.subset_univ _)) $$ Hkp; iintro Hkp
  iapply (wp_load Variants.none (c : Thread nD τ) none Set.univ (m := sendM) (Finset.subset_univ _)) $$ Hkp; iintro Hkp
  -- copy 0, and slot 0
  iapply (wp_wait_send m K 0 c _ (src := slotM 0) (dst := sendM) rfl) $$ [Hcs0 HO Has0]
  · isplitr; · iexact HK0
    isplitl [Hcs0]; · iexact Hcs0
    isplitl [HO]; · iexact HO
    iexact Has0
  iintro ⟨HO, Has0, Hl0⟩
  iapply (wp_wait_recv m K 0 c _ (src := sendM) (dst := slotM 0) (slot_bytes 0)) $$ [Hcr0 HO Har0]
  · isplitr; · iexact HK0
    isplitl [Hcr0]; · iexact Hcr0
    isplitl [HO]; · iexact HO
    iexact Har0
  iintro ⟨HO, Har0, Hw0⟩
  ihave Hw0 := (Entails.of_eq (slotPts_eq 0 c (got m c))) $$ Hw0
  iapply (wp_load Variants.none (c : Thread nD τ) none Set.univ (m := winM) (rd_in_slot 0 _ _ rfl)) $$ Hw0; iintro Hw0
  iapply (wp_load Variants.none (c : Thread nD τ) none Set.univ (m := winM) (rd_in_slot 0 _ _ rfl)) $$ Hw0; iintro Hw0
  iapply (wp_load Variants.none (c : Thread nD τ) none Set.univ (m := winM) (rd_in_slot 0 _ _ rfl)) $$ Hw0; iintro Hw0
  iapply (wp_load Variants.none (c : Thread nD τ) none Set.univ (m := winM) (rd_in_slot 0 _ _ rfl)) $$ Hw0; iintro Hw0
  -- copy 1, and slot 1
  iapply (wp_wait_send m K 1 c _ (src := slotM 1) (dst := sendM) rfl) $$ [Hcs1 HO Has1]
  · isplitr; · iexact HK1
    isplitl [Hcs1]; · iexact Hcs1
    isplitl [HO]; · iexact HO
    iexact Has1
  iintro ⟨HO, Has1, Hl1⟩
  iapply (wp_wait_recv m K 1 c _ (src := sendM) (dst := slotM 1) (slot_bytes 1)) $$ [Hcr1 HO Har1]
  · isplitr; · iexact HK1
    isplitl [Hcr1]; · iexact Hcr1
    isplitl [HO]; · iexact HO
    iexact Har1
  iintro ⟨HO, Har1, Hw1⟩
  ihave Hw1 := (Entails.of_eq (slotPts_eq 1 c (got m c))) $$ Hw1
  iapply (wp_load Variants.none (c : Thread nD τ) none Set.univ (m := winM) (rd_in_slot 1 _ _ rfl)) $$ Hw1; iintro Hw1
  iapply (wp_load Variants.none (c : Thread nD τ) none Set.univ (m := winM) (rd_in_slot 1 _ _ rfl)) $$ Hw1; iintro Hw1
  iapply (wp_load Variants.none (c : Thread nD τ) none Set.univ (m := winM) (rd_in_slot 1 _ _ rfl)) $$ Hw1; iintro Hw1
  iapply (wp_load Variants.none (c : Thread nD τ) none Set.univ (m := winM) (rd_in_slot 1 _ _ rfl)) $$ Hw1; iintro Hw1
  -- the output projection, stored
  iapply (wp_load Variants.none (c : Thread nD τ) none Set.univ (m := Memref.whole cc0_stg4_0) (Finset.subset_univ _)) $$ Hwo; iintro Hwo
  rw [rd_wo]
  iapply (wp_load Variants.none (c : Thread nD τ) none Set.univ (m := Memref.whole cc0_stg5_0) (Finset.subset_univ _)) $$ Hout; iintro Hout
  iapply (wp_store Variants.none (c : Thread nD τ) none Set.univ (m := Memref.whole cc0_stg5_0) (r := Rect.unit (s := S2x128x512) ![0, 0, 0] S2x128x512.size inb_S2x128x512_S2x128x512_0_0_0) (Mk := Finset.univ) (Finset.subset_univ _)) $$ Hout; iintro Hout
  rw [wr_out, wp_ret]
  -- the scratch buffers whole again, the five cells closed
  ihave Hkp := (Entails.of_eq (sentPts_eq m kept c).symm) $$ Hkp
  ihave Hsd := (sent_join m c) $$ [Hl0 Hl1 Hkp]
  · isplitl [Hl0]; · iexact Hl0
    isplitl [Hl1] <;> iassumption
  ihave Hwn := (Entails.of_eq (win_slots c (got m c)).symm) $$ [Hw0 Hw1]
  · isplitl [Hw0]; · iapply (Entails.of_eq (slotPts_eq 0 c (got m c)).symm); iexact Hw0
    iapply (Entails.of_eq (slotPts_eq 1 c (got m c)).symm); iexact Hw1
  imod (Rounds.cell_close EDir (plan m) (Set.mem_univ (K (c, 0))) (fun h => h) (R := 0 + 1) (duties_done m (barCell c))) $$ [Hab] with Hzb
  · isplitr; · unfold barKnow; iexact HKb
    iexact Hab
  unfold dirKnow
  icases HK0 with ⟨⟨#HIs0, #HIr0, -⟩, -⟩
  icases HK1 with ⟨⟨#HIs1, #HIr1, -⟩, -⟩
  imod (Rounds.cell_close EDir (plan m) (Set.mem_univ (K (c, sIx 0))) (fun h => h) (R := 0 + 1) (duties_done m (sendCell 0 c))) $$ [Has0] with Hzs0
  · isplitr; · iexact HIs0
    iexact Has0
  imod (Rounds.cell_close EDir (plan m) (Set.mem_univ (K (c, sIx 1))) (fun h => h) (R := 0 + 1) (duties_done m (sendCell 1 c))) $$ [Has1] with Hzs1
  · isplitr; · iexact HIs1
    iexact Has1
  imod (Rounds.cell_close EDir (plan m) (Set.mem_univ (K (c, rIx 0))) (fun h => h) (R := 0 + 1) (duties_done m (recvCell 0 c))) $$ [Har0] with Hzr0
  · isplitr; · iexact HIr0
    iexact Har0
  imod (Rounds.cell_close EDir (plan m) (Set.mem_univ (K (c, rIx 1))) (fun h => h) (R := 0 + 1) (duties_done m (recvCell 1 c))) $$ [Har1] with Hzr1
  · isplitr; · iexact HIr1
    iexact Har1
  imodintro
  iapply HK
  unfold bodyEnd phi₁
  isplitl [Hsd Hwn Hzb Hzs0 Hzs1 Hzr0 Hzr1]
  · isplitl [Hsd]; · iexact Hsd
    isplitl [Hwn]; · iexact Hwn
    isplitl [Hzb]; · iexact Hzb
    isplitl [Hzs0]; · iexact Hzs0
    isplitl [Hzs1]; · iexact Hzs1
    isplitl [Hzr0] <;> iassumption
  isplitl [HO]; · iexists _; iexact HO
  isplitl [Hx]; · iexact Hx
  isplitl [Hwq]; · iexact Hwq
  isplitl [Hk]; · iexact Hk
  isplitl [Hv]; · iexact Hv
  isplitl [Hwo]; · iexact Hwo
  iexact Hout

end Cert.KernelIdeal.Run

end
-- ==== Proof.Ideal.Launch.lean ====
/-
# The launch: ghost state dealt out, the body on every device, the run of the whole program
-/
module

public import proofs.«01_k».proof.Proof.Ideal.Body
public import Idealize.ShloMosaic.Lib.Pipeline.CollectiveSegs

@[expose] public section

set_option maxRecDepth 16384

noncomputable section

namespace Cert.KernelIdeal.Run

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UAll ℕ

variable (m : (ℓ : Loc nD τ sig) → Buf (Elt F) ℓ) (ρ : Dev nD → PrngReg)

/-! ## The body's obligation -/

/-- Before the body each staged operand holds its block. -/
theorem before_x (c : Dev nD) (t : Fin cfg0.N) (d) : (dats m 0 c).before (0 : Fin 6) t d = xBlk m c := by
  unfold Dat.before; rw [if_pos (fetch0_0 t)]; rw [fin_N0 t]; rfl
theorem before_wq (c : Dev nD) (t : Fin cfg0.N) (d) : (dats m 0 c).before (1 : Fin 6) t d = wqBlk m c := by
  unfold Dat.before; rw [if_pos (fetch0_1 t)]; rw [fin_N0 t]; rfl
theorem before_k (c : Dev nD) (t : Fin cfg0.N) (d) : (dats m 0 c).before (2 : Fin 6) t d = kBlk m c := by
  unfold Dat.before; rw [if_pos (fetch0_2 t)]; rw [fin_N0 t]; rfl
theorem before_v (c : Dev nD) (t : Fin cfg0.N) (d) : (dats m 0 c).before (3 : Fin 6) t d = vBlk m c := by
  unfold Dat.before; rw [if_pos (fetch0_3 t)]; rw [fin_N0 t]; rfl
theorem before_wo (c : Dev nD) (t : Fin cfg0.N) (d) : (dats m 0 c).before (4 : Fin 6) t d = woBlk m c := by
  unfold Dat.before; rw [if_pos (fetch0_4 t)]; rw [fin_N0 t]; rfl

/-- What the body is given at the one grid point. -/
def oblPre (c : Dev nD) : sProp 𝕄 :=
  iprop(phi₀ m c ∗ (dats m 0 c).owesAt () (t0_0 : Fin cfg0.N).castSucc
    ∗ (∃ d, held c cc0_stg0_0 ((dats m 0 c).before (0 : Fin 6) t0_0 d)) ∗ (∃ d, held c cc0_stg1_0 ((dats m 0 c).before (1 : Fin 6) t0_0 d))
    ∗ (∃ d, held c cc0_stg2_0 ((dats m 0 c).before (2 : Fin 6) t0_0 d)) ∗ (∃ d, held c cc0_stg3_0 ((dats m 0 c).before (3 : Fin 6) t0_0 d))
    ∗ (∃ d, held c cc0_stg4_0 ((dats m 0 c).before (4 : Fin 6) t0_0 d)) ∗ (∃ d, held c cc0_stg5_0 ((dats m 0 c).before (5 : Fin 6) t0_0 d)))

/-- What it must give back. -/
def oblPost (c : Dev nD) : sProp 𝕄 :=
  iprop(phi₁ m c ∗ (dats m 0 c).owesAt () (t0_0 : Fin cfg0.N).succ
    ∗ held c cc0_stg0_0 (xBlk m c) ∗ held c cc0_stg1_0 (wqBlk m c) ∗ held c cc0_stg2_0 (kBlk m c) ∗ held c cc0_stg3_0 (vBlk m c)
    ∗ held c cc0_stg4_0 (woBlk m c) ∗ held c cc0_stg5_0 (outAt m c))

/-- A buffer at its contents is held. -/
theorem held_intro (c : Dev nD) (b : Ref sig .tc) (X : b.ty.Contents (Elt F)) : (((c : Thread nD τ).loc b) ↦{fullShare} X : sProp 𝕄) ⊢ held c b X := by
  iintro H; unfold held; iexists X; isplitr; · (ipureintro; rfl)
  iexact H

/-- Where the body ends is what it must give back. -/
theorem bodyEnd_post (c : Dev nD) : bodyEnd m c ⊢ oblPost m c := by
  unfold bodyEnd oblPost Dat.owesAt Pipeline.owesWithin
  rw [show (dats m 0 c).owed (t0_0 : Fin cfg0.N).succ = 0 from rfl]
  iintro ⟨Hp, ⟨%W, HO⟩, H0, H1, H2, H3, H4, H5⟩
  isplitl [Hp]; · iexact Hp
  isplitl [HO]
  · iexists W
    isplitr; · ipureintro; exact fun _ _ => Or.inl trivial
    iexact HO
  isplitl [H0]; · iapply (held_intro c cc0_stg0_0 _); iexact H0
  isplitl [H1]; · iapply (held_intro c cc0_stg1_0 _); iexact H1
  isplitl [H2]; · iapply (held_intro c cc0_stg2_0 _); iexact H2
  isplitl [H3]; · iapply (held_intro c cc0_stg3_0 _); iexact H3
  isplitl [H4]; · iapply (held_intro c cc0_stg4_0 _); iexact H4
  iapply (held_intro c cc0_stg5_0 _); iexact H5

/-- From what it is given, the body runs to what it must give back. -/
theorem oblPre_runs (c : Dev nD) : oblPre m c ⊢ wp frame (wpE (defs₀ (F := F)) Variants.none c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) cc0_scratch2 cc0_scratch3) (fun _ => oblPost m c) := by
  unfold oblPre phi₀ Dat.owesAt Pipeline.owesWithin held
  simp only [before_x, before_wq, before_k, before_v, before_wo]
  rw [show (dats m 0 c).owed (t0_0 : Fin cfg0.N).castSucc = owed₀ c from rfl]
  iintro ⟨⟨⟨%K, Hg⟩, Hc, ⟨%f0, Hs0⟩, ⟨%f1, Hs1⟩⟩, ⟨%W, %hW, HO⟩, ⟨%d0, %g0, %hg0, H0⟩, ⟨%d1, %g1, %hg1, H1⟩, ⟨%d2, %g2, %hg2, H2⟩, ⟨%d3, %g3, %hg3, H3⟩,
    ⟨%d4, %g4, %hg4, H4⟩, ⟨%d5, %g5, %hg5, H5⟩⟩
  subst hg0; subst hg1; subst hg2; subst hg3; subst hg4
  iapply (body_runs m K c f0 f1 g5 W fun _ => oblPost m c)
  unfold bodyPre
  isplitr []
  · isplitl [Hg]; · iexact Hg
    isplitl [Hc]; · iexact Hc
    isplitl [Hs0]; · iexact Hs0
    isplitl [Hs1]; · iexact Hs1
    isplitl [HO]; · iexact HO
    isplitl [H0]; · iexact H0
    isplitl [H1]; · iexact H1
    isplitl [H2]; · iexact H2
    isplitl [H3]; · iexact H3
    isplitl [H4]; · iexact H4
    iexact H5
  · iintro H; iapply (bodyEnd_post m c); iexact H

/-- The body keeps the contract that the pipeline asks of it. -/
theorem body_obligation (c : Dev nD) : BodyObligation (dats (F := F) m 0 c) (defs₀ (F := F)) Variants.none () Set.univ := fun t => by
  rw [show t = (t0_0 : Fin cfg0.N) from fin_N0 t]
  rw [show ∀ Φ : Fin cfg0.W → sProp 𝕄, bigSep Finset.univ Φ = _ from fun Φ => bigSep_W0 Φ,
    show ∀ Φ : Fin cfg0.W → sProp 𝕄, bigSep Finset.univ Φ = _ from fun Φ => bigSep_W0 Φ]
  have h := oblPre_runs m c
  unfold oblPre oblPost at h
  simp only [← owns_held] at h
  exact h

/-! ## The launch's ghost state -/

/-- The four transfer semaphores are the kernel's own; the barrier is not. -/
abbrev ownSpot : Fin 4 → SemLoc sig := fun | 0 => .dma (sendQ 0) | 1 => .dma (sendQ 1) | 2 => .dma (recvQ 0) | 3 => .dma (recvQ 1)
/-- The kernel's own semaphores are the four of its two copies. -/
theorem ownSpot_facts : Pipeline.OwnSemFacts cfg0.spec ownSpot := by decide
/-- Each window's array is held whole. -/
theorem share_full (c : Dev nD) (w : Fin cfg0.W) : (dats m 0 c).share w = fullShare := by unfold Dat.share; split <;> rfl

/-- The cells of all devices are different. -/
theorem spotCell_inj : Function.Injective (spotCell : Dev nD × Fin 5 → GSem nD τ sig) := by
  rintro ⟨c, k⟩ ⟨c', k'⟩ h
  have h1 : c = c' := congrArg (fun g : GSem nD τ sig => g.1.1) h
  subst h1
  have h2 : spot k = spot k' := congrArg Prod.snd h
  have : k = k' := by clear h; revert k k'; decide
  subst this; rfl
/-- The cells of all devices. -/
def dirCells : Finset (GSem nD τ sig) := Finset.univ.map ⟨spotCell, spotCell_inj⟩

/-- A device's own cells' duties: the two of the barrier, one for each transfer cell. -/
abbrev dutyIx : Fin 6 → Fin 5 × Fin 2 := fun | 0 => (0, 0) | 1 => (0, 1) | 2 => (1, 0) | 3 => (2, 0) | 4 => (3, 0) | 5 => (4, 0)
/-- A duty of a device's cell, in the first round. -/
abbrev dutyAt (cj : Dev nD × Fin 6) : GSem nD τ sig × ℕ × Fin 2 := (spotCell (cj.1, (dutyIx cj.2).1), 0, (dutyIx cj.2).2)
/-- The duties of all devices are different. -/
theorem dutyAt_inj : Function.Injective (dutyAt : Dev nD × Fin 6 → GSem nD τ sig × ℕ × Fin 2) := by
  rintro ⟨c, j⟩ ⟨c', j'⟩ h
  have h0 := spotCell_inj (congrArg Prod.fst h)
  have h1 : c = c' := congrArg Prod.fst h0
  have h2 : (dutyIx j).1 = (dutyIx j').1 := congrArg Prod.snd h0
  have h3 : (dutyIx j).2 = (dutyIx j').2 := congrArg (fun x : GSem nD τ sig × ℕ × Fin 2 => x.2.2) h
  subst h1
  clear h h0
  have : j = j' := by revert j j'; decide
  subst this; rfl
/-- The duties of all devices. -/
def dirDuties : Finset (GSem nD τ sig × ℕ × Fin 2) := Finset.univ.map ⟨dutyAt, dutyAt_inj⟩

/-- The ghost state that the launch starts from. -/
def seed : UAll := (initOf (Pipeline.cells cfgs cellOf_inj) (Pipeline.launchToks cfgs cellOf_inj), initOf dirCells dirDuties)

/-- The duties of device `c`'s own cells, as the launch mints them. -/
def minted (c : Dev nD) : sProp 𝕄 :=
  iprop(dutyTok EDir (barCell c) 0 0 ∗ dutyTok EDir (barCell c) 0 1 ∗ dutyTok EDir (sendCell 0 c) 0 0 ∗ dutyTok EDir (sendCell 1 c) 0 0
    ∗ dutyTok EDir (recvCell 0 c) 0 0 ∗ dutyTok EDir (recvCell 1 c) 0 0)

/-- What is dealt to a device from it: each cell's round, and the tokens of the duties on its cells. -/
def dealt (c : Dev nD) : sProp 𝕄 :=
  iprop((bigSep Finset.univ fun k : Fin 5 => roundState EDir (plan m) (spotCell (c, k)) 0)
    ∗ (bigSep Finset.univ fun k : Fin 5 => iprop(atPos EDir (spotCell (c, k)) 0 ∅ 0 ∗ reached EDir (spotCell (c, k)) 0)) ∗ minted c)
def dealt' (c : Dev nD) : sProp 𝕄 := iprop(∃ K, ghost m K c)

/-- Five things together, one by one. -/
theorem bigSep_five (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
/-- Six things together, one by one. -/
theorem bigSep_six (Φ : Fin 6 → sProp 𝕄) : bigSep Finset.univ Φ = iprop(Φ 0 ∗ Φ 1 ∗ Φ 2 ∗ Φ 3 ∗ Φ 4 ∗ Φ 5) := bigSep_univ_eq_bigSepL [0, 1, 2, 3, 4, 5] (by decide) (by decide) Φ

/-- The ghost state of the launch is what is dealt to all devices. -/
theorem fund : BI.own (EDir (initOf dirCells dirDuties)) ⊢ (|==> bigSep Finset.univ (dealt m) : sProp 𝕄) := by
  have hX (Φ : GSem nD τ sig → sProp 𝕄) : bigSep dirCells Φ = bigSep Finset.univ fun c : Dev nD => bigSep Finset.univ fun k : Fin 5 => Φ (spotCell (c, k)) := by
    unfold dirCells; rw [bigSep_map, bigSep_univ_prod]; rfl
  have hT : bigSep dirDuties (fun x => (dutyTok EDir x.1 x.2.1 x.2.2 : sProp 𝕄)) = bigSep Finset.univ fun c : Dev nD => minted c := by
    unfold dirDuties; rw [bigSep_map, bigSep_univ_prod]
    exact bigSep_congr fun c _ => by unfold minted; rw [bigSep_six]; rfl
  iintro HX
  imod (Rounds.fund EDir (plan m) dirCells dirDuties) $$ HX with ⟨Hst, Hr, Hat, Htok⟩
  imodintro
  ihave Hst' := (Entails.of_eq (hX fun g => roundState EDir (plan m) g 0)) $$ Hst
  ihave Hat' := (Entails.of_eq (hX fun g => atPos EDir g 0 ∅ 0)) $$ Hat
  ihave Hr' := (Entails.of_eq (hX fun g => reached EDir g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The device's own semaphores are its four of the copies. -/
theorem ownSems_eq (c : Dev nD) : (Pipeline.ownSems0 (Ix := Unit) (Name := ℕ) (U := UAll) (Lvl := ℕ) (Val := Elt F) (τ := τ) ownSpot c : sProp 𝕄)
    = iprop(semVal (sendCell 0 c) 0 ∗ semVal (sendCell 1 c) 0 ∗ semVal (recvCell 0 c) 0 ∗ semVal (recvCell 1 c) 0) := by
  rw [Pipeline.ownSems0_eq_of_list c ownSpot [0, 1, 2, 3] (by decide) (by decide)]; rfl
/-- The semaphore that outlives the kernel is the barrier's. -/
theorem barSems_eq (c : Dev nD) : (unscopedSems0 c : sProp 𝕄) = semVal (barCell c) 0 := by
  unfold unscopedSems0; rw [bigSep_eq_bigSepL_of_eq [SemLoc.reg barQ] (by decide) (by decide)]; rfl

/-- All five counters of a device, at zero. -/
theorem all_sems (c : Dev nD) :
    iprop(Pipeline.ownSems0 (Ix := Unit) (Name := ℕ) (U := UAll) (Lvl := ℕ) (Val := Elt F) (τ := τ) ownSpot c ∗ unscopedSems0 c)
      ⊢ (bigSep Finset.univ fun k : Fin 5 => semVal (spotCell (c, k)) 0 : sProp 𝕄) := by
  rw [ownSems_eq, barSems_eq, bigSep_five]
  iintro ⟨Ho, HB⟩
  isplitl [HB]; · iexact HB
  iexact Ho

/-- A device's counters and what is dealt to it become the five cells' invariants. -/
theorem dev_alloc (c : Dev nD) :
    iprop(Pipeline.ownSems0 (Ix := Unit) (Name := ℕ) (U := UAll) (Lvl := ℕ) (Val := Elt F) (τ := τ) ownSpot c ∗ unscopedSems0 c ∗ dealt m c)
      ⊢ |={Set.univ}=> iprop((bigSep Finset.univ fun k => iprop(∃ κ : ℕ, cellInv EDir (plan m) κ (spotCell (c, k))))
          ∗ (bigSep Finset.univ fun k => iprop(atPos EDir (spotCell (c, k)) 0 ∅ 0 ∗ reached EDir (spotCell (c, k)) 0)) ∗ minted c) := by
  unfold dealt
  iintro ⟨Hos, Hus, Hst, Hat, Htok⟩
  ihave Hv := (all_sems (F := F) c) $$ [Hos Hus]
  · isplitl [Hos] <;> iassumption
  imod (show iprop((bigSep Finset.univ fun k : Fin 5 => semVal (spotCell (c, k)) 0) ∗ bigSep Finset.univ fun k : Fin 5 => roundState EDir (plan m) (spotCell (c, k)) 0)
      ⊢ (|={Set.univ}=> bigSep Finset.univ fun k => iprop(∃ κ : ℕ, cellInv EDir (plan m) κ (spotCell (c, k))) : sProp 𝕄) from by
        rw [← bigSep_sep']
        exact (bigSep_mono fun k _ => (Rounds.body_intro EDir (plan m) (spotCell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may know: every cell's invariant, and that every cell started. -/
def common (K : Dev nD × Fin 5 → ℕ) : sProp 𝕄 :=
  iprop((bigSep Finset.univ fun ck : Dev nD × Fin 5 => cellInv EDir (plan m) (K ck) (spotCell ck))
    ∗ bigSep Finset.univ fun ck : Dev nD × Fin 5 => reached EDir (spotCell ck) 0)
/-- What all devices know stays known. -/
instance common_persistent (K : Dev nD × Fin 5 → ℕ) : BI.Persistent (common m K) := by unfold common; infer_instance

/-- It includes each cell's invariant, -/
theorem inv_of (K : Dev nD × Fin 5 → ℕ) (ck : Dev nD × Fin 5) :
    (bigSep Finset.univ fun ck : Dev nD × Fin 5 => (cellInv EDir (plan m) (K ck) (spotCell ck) : sProp 𝕄)) ⊢ cellInv EDir (plan m) (K ck) (spotCell ck) :=
  bigSep_elim (Finset.mem_univ ck)
/-- and that each cell's first round has started, -/
theorem started_of (ck : Dev nD × Fin 5) :
    (bigSep Finset.univ fun ck : Dev nD × Fin 5 => (reached EDir (spotCell ck) 0 : sProp 𝕄)) ⊢ reached EDir (spotCell ck) 0 :=
  bigSep_elim (Finset.mem_univ ck)

/-- so all that a device has to know of one direction. -/
theorem dirKnow_intro (K : Dev nD × Fin 5 → ℕ) (k : Fin 2) (c : Dev nD) : common m K ⊢ dirKnow m K k c := by
  have es : spotCell (c, sIx k) = sendCell k c := by unfold spotCell; rw [spot_s]
  have er (d : Dev nD) : spotCell (d, rIx k) = recvCell k d := by unfold spotCell; rw [spot_r]
  unfold common dirKnow
  rw [← es, ← er, ← er]
  iintro ⟨#HI, #HR⟩
  isplitr
  · isplitr; · iapply (inv_of m K (c, sIx k)); iexact HI
    isplitr; · iapply (inv_of m K (c, rIx k)); iexact HI
    isplitr; · iapply (inv_of m K (peer k c, 0)); iexact HI
    iapply (inv_of m K (peer k c, rIx k)); iexact HI
  isplitr; · iapply (started_of (F := F) (peer k c, 0)); iexact HR
  isplitr; · iapply (started_of (F := F) (peer k c, rIx k)); iexact HR
  isplitr; · iapply (started_of (F := F) (c, sIx k)); iexact HR
  iapply (started_of (F := F) (c, rIx k)); iexact HR

/-- What device `c` alone holds: its positions and the duties that it pays. -/
def alone (c : Dev nD) : sProp 𝕄 :=
  iprop((atPos EDir (barCell c) 0 ∅ 0 ∗ atPos EDir (sendCell 0 c) 0 ∅ 0 ∗ atPos EDir (sendCell 1 c) 0 ∅ 0 ∗ atPos EDir (recvCell 0 c) 0 ∅ 0 ∗ atPos EDir (recvCell 1 c) 0 ∅ 0)
    ∗ dirDuty 0 c ∗ dirDuty 1 c)

/-- What all know, and what one device has alone, is all the ghost state that its body takes. -/
theorem ghost_of (K : Dev nD × Fin 5 → ℕ) (c : Dev nD) : iprop(common m K ∗ alone c) ⊢ dealt' m c := by
  unfold alone dealt' ghost dirPos
  iintro ⟨#HC, ⟨Hb, Hs0, Hs1, Hr0, Hr1⟩, Ht⟩
  iexists K
  isplitr
  · isplitr
    · unfold common barKnow
      icases HC with ⟨#HI, -⟩
      iapply (inv_of m K (c, 0)); iexact HI
    isplitr; · iapply (dirKnow_intro m K 0 c); iexact HC
    iapply (dirKnow_intro m K 1 c); iexact HC
  isplitl [Hb]; · iexact Hb
  isplitl [Hs0 Hs1 Hr0 Hr1]
  · isplitl [Hs0 Hr0]
    · isplitl [Hs0] <;> iassumption
    · isplitl [Hs1] <;> iassumption
  iexact Ht

/-- The duties dealt round the ring, each to the device that pays it. -/
theorem deal : (bigSep Finset.univ fun c : Dev nD => (minted c : sProp 𝕄)) ⊢ bigSep Finset.univ fun c : Dev nD => iprop(dirDuty 0 c ∗ dirDuty 1 c) := by
  unfold minted dirDuty
  simp only [bigSep_sep']
  rw [bigSep_univ_equiv (turn 1) (fun c : Dev nD => (dutyTok EDir (barCell c) 0 0 : sProp 𝕄)),
    bigSep_univ_equiv (turn 0) (fun c : Dev nD => (dutyTok EDir (barCell c) 0 1 : sProp 𝕄)),
    bigSep_univ_equiv (turn 0) (fun c : Dev nD => (dutyTok EDir (recvCell 0 c) 0 0 : sProp 𝕄)),
    bigSep_univ_equiv (turn 1) (fun c : Dev nD => (dutyTok EDir (recvCell 1 c) 0 0 : sProp 𝕄))]
  iintro ⟨Hb0, Hb1, Hs0, Hs1, Hr0, Hr1⟩
  isplitl [Hb1 Hr0 Hs0]
  · isplitl [Hb1]; · iexact Hb1
    isplitl [Hr0]; · iexact Hr0
    iexact Hs0
  · isplitl [Hb0]; · iexact Hb0
    isplitl [Hr1]; · iexact Hr1
    iexact Hs1

/-- What is known beside a collection is known beside each of its members. -/
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens of all devices, regrouped from the cells that are paid to the devices that pay. -/
theorem regroup :
    (bigSep Finset.univ fun c : Dev nD => iprop((bigSep Finset.univ fun k => iprop(∃ κ : ℕ, cellInv EDir (plan m) κ (spotCell (c, k))))
          ∗ (bigSep Finset.univ fun k => iprop(atPos EDir (spotCell (c, k)) 0 ∅ 0 ∗ reached EDir (spotCell (c, k)) 0)) ∗ minted c) : sProp 𝕄)
      ⊢ bigSep Finset.univ (dealt' m) := by
  rw [bigSep_sep', bigSep_sep', ← bigSep_univ_prod (fun ck : Dev nD × Fin 5 => iprop(∃ κ : ℕ, cellInv EDir (plan m) κ (spotCell ck))),
    bigSep_congr (s := Finset.univ) (fun (c : Dev nD) _ => bigSep_sep' Finset.univ (fun k : Fin 5 => (atPos EDir (spotCell (c, k)) 0 ∅ 0 : sProp 𝕄)) (fun k => reached EDir (spotCell (c, k)) 0)),
    bigSep_sep', ← bigSep_univ_prod (fun ck : Dev nD × Fin 5 => (reached EDir (spotCell ck) 0 : sProp 𝕄))]
  iintro ⟨HI, ⟨Hat, #HR⟩, Htok⟩
  ihave HK := (BI.bigSep_exists_pi Finset.univ (fun (ck : Dev nD × Fin 5) (κ : ℕ) => (cellInv EDir (plan m) κ (spotCell ck) : sProp 𝕄))) $$ HI
  icases HK with ⟨%K, #HI⟩
  ihave Htk := (deal (F := F)) $$ Htok
  iapply (bigSep_beside (R := common m K) fun c _ => ghost_of m K c)
  isplitr
  · unfold common; isplitl; · iexact HI
    iexact HR
  · iapply ((Entails.of_eq (bigSep_sep' Finset.univ (fun c : Dev nD => bigSep Finset.univ fun k : Fin 5 => (atPos EDir (spotCell (c, k)) 0 ∅ 0 : sProp 𝕄))
        (fun c => iprop(dirDuty 0 c ∗ dirDuty 1 c))).symm).trans
      (bigSep_mono fun c _ => show _ ⊢ alone c from Entails.of_eq (by unfold alone; rw [bigSep_five])))
    isplitl [Hat]; · iexact Hat
    iexact Htk

/-- The launch, over all devices together: counters and ghost state become what each body takes. -/
theorem launch_glob : (bigSep Finset.univ fun c => iprop(Pipeline.ownSems0 (Ix := Unit) (Name := ℕ) (U := UAll) (Lvl := ℕ) (Val := Elt F) (τ := τ) ownSpot c ∗ unscopedSems0 c ∗ dealt m c) : sProp 𝕄)
    ⊢ |={Set.univ}=> bigSep Finset.univ (dealt' m) :=
  ((bigSep_mono fun c _ => dev_alloc m c).trans (bigSep_fupd _ _)).trans (BI.fupd_mono (regroup m))

/-! ## The launch credit -/

/-- Two cells are the same when device and semaphore are. -/
theorem same_cell {a b : Dev nD} {sm : SemLoc sig} : ((((a : Thread nD τ), sm) : GSem nD τ sig) = ((b : Thread nD τ), sm)) ↔ a = b :=
  ⟨fun h => congrArg (fun g : GSem nD τ sig => g.1.1) h, fun h => h ▸ rfl⟩

/-- What a device owes a barrier cell: a unit, if it is one of the cell's neighbours. -/
theorem owed_bar (d c : Dev nD) : owed₀ d (barCell c) () = (if d = peer 1 c then 1 else 0) + (if d = peer 0 c then 1 else 0) := by
  rw [owed₀_apply, if_neg (show ¬ barCell c = recvCell 1 (peer 1 d) from fun h => by cases h), if_neg (show ¬ barCell c = recvCell 0 (peer 0 d) from fun h => by cases h)]
  simp only [Nat.zero_add]
  congr 1
  · exact if_congr (same_cell.trans (peer_eq_iff 0 c d)) rfl rfl
  · exact if_congr (same_cell.trans (peer_eq_iff 1 c d)) rfl rfl

/-- What a device owes a receive cell: a copy's bytes, if it is the cell's sender. -/
theorem owed_recv (k : Fin 2) (d c : Dev nD) : owed₀ d (recvCell k c) () = if d = peer (opp k) c then bytes else 0 := by
  have hb (j : Fin 2) : ¬ recvCell k c = barCell (peer j d) := fun h => by cases h
  rw [owed₀_apply, if_neg (hb 0), if_neg (hb 1)]
  simp only [Nat.add_zero]
  have hk (j : Fin 2) (hj : k ≠ j) : ¬ recvCell k c = recvCell j (peer j d) := fun h => hj (recvQ_inj (congrArg Prod.snd h))
  fin_cases k
  · rw [if_neg (hk 1 (by decide)), Nat.zero_add]
    exact if_congr (same_cell.trans (peer_eq_iff 0 c d)) rfl rfl
  · rw [if_neg (hk 0 (by decide)), Nat.add_zero]
    exact if_congr (same_cell.trans (peer_eq_iff 1 c d)) rfl rfl

/-- All devices together owe a barrier cell two units. -/
theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer 1 c) fun _ => 1, Finset.sum_ite_eq' Finset.univ (peer 0 c) fun _ => 1, if_pos (Finset.mem_univ _), if_pos (Finset.mem_univ _)]
/-- All devices together owe a receive cell one copy. -/
theorem launch_recv (k : Fin 2) (c : Dev nD) :
    tallyOn (recvCell k c) (launchCredit (Pipeline.owing owed₀) 0 (recvCell k c)) = (tallyAt (recvCell k c) () bytes : CellTallies nD τ sig Unit) := by
  unfold tallyAt; refine congrArg _ (Finsupp.ext fun u => ?_); cases u
  rw [Pipeline.launchCredit_owing, Finsupp.single_eq_same, Finset.sum_congr rfl fun d _ => owed_recv k d c,
    Finset.sum_ite_eq' Finset.univ (peer (opp k) c) fun _ => bytes, if_pos (Finset.mem_univ _)]

/-- So the launch gives a device the credits of its waits. -/
theorem launch_creds (c : Dev nD) :
    (Pipeline.launchCred owed₀ c : sProp 𝕄) ⊢ iprop(cred (tallyAt (barCell c) () 2) ∗ cred (tallyAt (recvCell 0 c) () bytes) ∗ cred (tallyAt (recvCell 1 c) () bytes)) := by
  have e : (Pipeline.launchCred owed₀ c : sProp 𝕄)
    = iprop(cred (tallyOn (barCell c) (launchCredit (Pipeline.owing owed₀) 0 (barCell c))) ∗ cred (tallyOn (recvCell 0 c) (launchCredit (Pipeline.owing owed₀) 0 (recvCell 0 c)))
        ∗ cred (tallyOn (recvCell 1 c) (launchCredit (Pipeline.owing owed₀) 0 (recvCell 1 c)))
        ∗ bigSep (((Finset.univ.erase (SemLoc.reg barQ)).erase (SemLoc.dma (recvQ 0))).erase (SemLoc.dma (recvQ 1))) fun sm =>
            cred (tallyOn ((c : Thread nD τ), sm) (launchCredit (Pipeline.owing owed₀) 0 ((c : Thread nD τ), sm)))) := by
    unfold Pipeline.launchCred
    rw [bigSep_univ_at _ (SemLoc.reg barQ), bigSep_erase (Finset.mem_erase.mpr ⟨(fun h => by cases h), Finset.mem_univ (SemLoc.dma (recvQ 0))⟩),
      bigSep_erase (Finset.mem_erase.mpr ⟨(by decide), Finset.mem_erase.mpr ⟨(fun h => by cases h), Finset.mem_univ (SemLoc.dma (recvQ 1))⟩⟩)]
    rfl
  rw [e, launch_bar, launch_recv, launch_recv]
  iintro ⟨H2, HR, HL, -⟩
  isplitl [H2]; · iexact H2
  isplitl [HR] <;> iassumption

/-! ## The run -/

/-- What a device starts its region with, the scratch buffers apart. -/
def begin (c : Dev nD) : sProp 𝕄 := iprop((∃ K, ghost m K c) ∗ credits c)

/-- What a device has at the start is what its body takes, its buffers at anything. -/
theorem begin_intro (c : Dev nD) :
    iprop(Pipeline.unscopedRestP Pipeline.Prefetch.none cfg0.spec c (fun b => m ((c : Thread nD τ).loc b)) ∗ levAts Lbl lvl
        ∗ Pipeline.launchCred owed₀ c ∗ prngReg c (ρ c) ∗ dealt' m c)
      ⊢ |={Set.univ}=> iprop(begin m c ∗ emp) := by
  iintro ⟨-, Hlev, Hcr, -, HG⟩
  ihave Hc := (launch_creds (F := F) c) $$ Hcr
  icases Hc with ⟨H2, HR, HL⟩
  imodintro
  unfold begin dealt' credits
  isplitl
  · isplitl [HG]; · iexact HG
    isplitl [H2]; · iexact H2
    isplitl [HR]; · iexact HR
    isplitl [HL]; · iexact HL
    iexact Hlev
  · iempintro

theorem phi₀_intro (c : Dev nD) :
    iprop(begin m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = phi₀ m c from rfl, scopedRest0_eq]
  unfold phi₀ begin
  iintro ⟨⟨Hg, Hc⟩, -, Hs, Hw⟩
  isplitl [Hg]; · iexact Hg
  isplitl [Hc]; · iexact Hc
  isplitl [Hs] <;> iassumption

theorem phi₁_exit (c : Dev nD) :
    (dats m 0 c).Φ (Fin.last cfg0.N) ⊢ iprop(unscopedSems0 c ∗ Pipeline.ownSems0 ownSpot c ∗ Pipeline.scopedRest cfg0.spec c) := by
  rw [show (dats m 0 c).Φ (Fin.last cfg0.N) = phi₁ m c from rfl, scopedRest0_eq, ownSems_eq, barSems_eq]
  unfold phi₁
  iintro ⟨Hs, Hw, Hb, Hz⟩
  isplitl [Hb]; · iexact Hb
  isplitl [Hz]; · iexact Hz
  isplitl [Hs]
  · iexists (sent m c); iexact Hs
  · iexists (got m c); iexact Hw

/-- The waits for staging lie below all that a device owes. -/
theorem stage_waits (c : Dev nD) : (levAts Lbl lvl : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A window's array after the run. -/
def finalArr (c : Dev nD) (w : Fin cfg0.W) : Buf (Elt F) ((cfg0.win w).arr.view.loc (c : Thread nD τ)) := (dats m 0 c).arrAt w cfg0.N

/-- Every window's array at its final contents. -/
def Final : PUnit × MemSt nD τ sig (Elt F) → Prop := fun r =>
  ∀ c : Dev nD, ∀ w : Fin cfg0.W, r.2.mem ((cfg0.win w).arr.view.loc (c : Thread nD τ)) = finalArr m c w

/-- From any memory with every counter at zero, for any float values, on sixteen devices: every weakly fair execution of
    the program terminates, in a state where every window's array holds its final contents and every counter is zero. -/
theorem run_main : θ_run defs (onTc (τ := τ) (main (F := F))) (start₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSpot_facts (Pipeline.PreFacts.none _) EPipe defs₀ Variants.none m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := owed₀) (howed₀ := fun _ => rfl) (howedN := fun _ => rfl)
    (L := Lbl) (lv := lvl) (hL := Lbl_off) (hwaits := stage_waits m)
    (G := dealt m) (G' := dealt' m) (u₀ := seed)
    (hu₀ := by
      unfold seed
      iintro Hu
      ihave H := (ownU_pair _ _) $$ Hu
      icases H with ⟨HP, HX⟩
      imod (fund m) $$ HX with HG
      imodintro
      isplitl [HP] <;> iassumption)
    (hglob := launch_glob m)
    (hA := fun _ _ => rfl) (hpf := fun _ k => k.elim0)
    (X := begin m) (Y := fun c => unscopedSems0 c) (Z := fun _ => iprop(emp))
    (hX := begin_intro m ρ) (hin := phi₀_intro m) (hout := phi₁_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Run

end
-- ==== Proof.Ideal.Final.lean ====
/-
# What the run leaves in the arrays

The five arguments as they were, the result at the block that the body stores, every counter at zero.
-/
module

public import proofs.«01_k».proof.Proof.Ideal.Launch
public import Idealize.ShloMosaic.Lib.Claim

@[expose] public section

set_option maxRecDepth 16384

noncomputable section

namespace Cert.KernelIdeal.Run

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ) (c : Dev nD)

/-! ## A window's one block is its whole array -/

/-- The input's block is the input's array. -/
theorem xBlk_eq : xBlk m c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide) (fun a => by fin_cases a <;> decide) _
/-- The query projection's block is its array. -/
theorem wqBlk_eq : wqBlk m c = m ((c : Thread nD τ).loc main_arg1) :=
  Memref.read_access_unit_zero (Elt F) main_arg1
    (show (fun a => (win0_1.index (0 : Fin 1)) a * main_arg1.ty.shape.size a) = fun _ => 0 from
      funext fun a => by fin_cases a <;> decide) (fun a => by fin_cases a <;> decide) _
/-- The keys' block is their array. -/
theorem kBlk_eq : kBlk m c = m ((c : Thread nD τ).loc main_arg2) :=
  Memref.read_access_unit_zero (Elt F) main_arg2
    (show (fun a => (win0_2.index (0 : Fin 1)) a * main_arg2.ty.shape.size a) = fun _ => 0 from
      funext fun a => by fin_cases a <;> decide) (fun a => by fin_cases a <;> decide) _
/-- The values' block is their array. -/
theorem vBlk_eq : vBlk m c = m ((c : Thread nD τ).loc main_arg3) :=
  Memref.read_access_unit_zero (Elt F) main_arg3
    (show (fun a => (win0_3.index (0 : Fin 1)) a * main_arg3.ty.shape.size a) = fun _ => 0 from
      funext fun a => by fin_cases a <;> decide) (fun a => by fin_cases a <;> decide) _
/-- The output projection's block is its array. -/
theorem woBlk_eq : woBlk m c = m ((c : Thread nD τ).loc main_arg4) :=
  Memref.read_access_unit_zero (Elt F) main_arg4
    (show (fun a => (win0_4.index (0 : Fin 1)) a * main_arg4.ty.shape.size a) = fun _ => 0 from
      funext fun a => by fin_cases a <;> decide) (fun a => by fin_cases a <;> decide) _
/-- The result's block is its array. -/
theorem result_read (f : Buf (Elt F) ((c : Thread nD τ).loc main_v1)) :
    (win0_5.blk (0 : Fin 1)).view.read (Elt F) f = f :=
  Memref.read_access_unit_zero (Elt F) main_v1
    (show (fun a => (win0_5.index (0 : Fin 1)) a * main_v1.ty.shape.size a) = fun _ => 0 from
      funext fun a => by fin_cases a <;> decide) (fun a => by fin_cases a <;> decide) f

/-! ## The arrays after the run -/

/-- The result array ends at the block that the body stores. -/
theorem finalArr_out : finalArr m c 5 = outAt m c := by
  have hw : (win0_5.blk (0 : Fin 1)).view.read (Elt F) (finalArr m c 5) = outAt m c := by
    unfold finalArr
    rw [show cfg0.N = ((0 : Fin 1) : Fin cfg0.N).val + 1 from rfl, (dats m 0 c).arrAt_succ (5 : Fin 6) (0 : Fin 1)]
    rw [show (cfg0.win (5 : Fin 6)).flush (0 : Fin 1) = true from by decide, if_pos rfl]
    exact View.read_write_univ _ _
  exact (result_read c _).symm.trans hw

variable {m c} {r : PUnit × MemSt nD τ sig (Elt F)}

/-- The result buffer of each device after the run. -/
theorem Final.out (h : Final m r) (c : Dev nD) : r.2.mem ((c.tc : Thread nD τ).loc main_v1) = outAt m c :=
  (h c 5).trans (finalArr_out m c)
/-- The five arguments after the run are what they were. -/
theorem Final.arg0 (h : Final m r) (c : Dev nD) : r.2.mem ((c.tc : Thread nD τ).loc main_arg0) = m ((c.tc : Thread nD τ).loc main_arg0) :=
  (h c 0).trans ((dats m 0 c).arrAt_in 0 rfl _)
theorem Final.arg1 (h : Final m r) (c : Dev nD) : r.2.mem ((c.tc : Thread nD τ).loc main_arg1) = m ((c.tc : Thread nD τ).loc main_arg1) :=
  (h c 1).trans ((dats m 0 c).arrAt_in 1 rfl _)
theorem Final.arg2 (h : Final m r) (c : Dev nD) : r.2.mem ((c.tc : Thread nD τ).loc main_arg2) = m ((c.tc : Thread nD τ).loc main_arg2) :=
  (h c 2).trans ((dats m 0 c).arrAt_in 2 rfl _)
theorem Final.arg3 (h : Final m r) (c : Dev nD) : r.2.mem ((c.tc : Thread nD τ).loc main_arg3) = m ((c.tc : Thread nD τ).loc main_arg3) :=
  (h c 3).trans ((dats m 0 c).arrAt_in 3 rfl _)
theorem Final.arg4 (h : Final m r) (c : Dev nD) : r.2.mem ((c.tc : Thread nD τ).loc main_arg4) = m ((c.tc : Thread nD τ).loc main_arg4) :=
  (h c 4).trans ((dats m 0 c).arrAt_in 4 rfl _)

variable (m) in
/-- The kernel runs, its arguments end unchanged and every counter at zero. -/
theorem frame (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  θ_run_mono (run_main m ρ) fun _ h => ⟨fun c => ⟨h.1.arg0 c, h.1.arg1 c, h.1.arg2 c, h.1.arg3 c, h.1.arg4 c⟩, h.2⟩

end Cert.KernelIdeal.Run

end
-- ==== Proof.Value.Payloads.lean ====
/-
# What the kernel's body computes, read at an index

Each of the body's expressions at the ideal instance, read at an index in terms of its operands.
-/
module

public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen
open Idealize.ShloMosaic

/-- The scale that both programs multiply a score by. -/
abbrev scale : EReal := Ideal.ofBits .f32 0x3E000000#32

/-- The output: the contexts, heads side by side, times the output projection. -/
theorem pay1_at (ctx : FVec Ideal S2x128x4x64 .f32) (wo : FVec Ideal S256x512 .bf16) (b : Fin 2) (i : Fin 128) (f : Fin 512) :
    k0_pay1 (F := Ideal) ctx wo (ix3 b i f) = ∑ g : Fin 256, ctx (ix4 b i ⟨g.val / 64, by omega⟩ ⟨g.val % 64, by omega⟩) * wo (ix2 g f) := by
  pointwise [k0_pay1]

/-- The keys as they are sent: heads before rows. -/
theorem pay2_at (k : FVec Ideal S2x128x4x64 .bf16) (o : Fin 1) (b : Fin 2) (h : Fin 4) (i : Fin 128) (d : Fin 64) :
    k0_pay2 (F := Ideal) k (ix5 o b h i d) = k (ix4 b i h d) := by
  pointwise [k0_pay2]

/-- The values as they are sent: heads before rows. -/
theorem pay3_at (k : FVec Ideal S2x128x4x64 .bf16) (o : Fin 1) (b : Fin 2) (h : Fin 4) (i : Fin 128) (d : Fin 64) :
    k0_pay3 (F := Ideal) k (ix5 o b h i d) = k (ix4 b i h d) := by
  pointwise [k0_pay3]

/-- The queries. -/
theorem pay4_at (x : FVec Ideal S2x128x512 .bf16) (wq : FVec Ideal S512x256 .bf16) (b : Fin 2) (h : Fin 4) (i : Fin 128) (d : Fin 64) :
    k0_pay4 (F := Ideal) x wq (ix4 b h i d) = ∑ e : Fin 512, x (ix3 b i e) * wq (ix2 e ⟨h.val * 64 + d.val, by omega⟩) := by
  pointwise [k0_pay4]

/-- The first batch entry's queries. -/
theorem pay5_at (x : FVec Ideal S2x128x512 .bf16) (wq : FVec Ideal S512x256 .bf16) (h : Fin 4) (i : Fin 128) (d : Fin 64) :
    k0_pay5 (F := Ideal) x wq (ix3 h i d) = k0_pay4 (F := Ideal) x wq (ix4 0 h i d) := by
  pointwise [k0_pay5]

/-- The first batch entry's weights for the device's own keys. -/
theorem pay6_at (q : FVec Ideal S4x128x64 .bf16) (k : FVec Ideal S1x1x4x128x64 .bf16) (h : Fin 4) (i j : Fin 128) :
    k0_pay6 (F := Ideal) q k (ix3 h i j) = Ideal.exp ((∑ d : Fin 64, q (ix3 h i d) * k (ix5 0 0 h j d)) * scale) := by
  pointwise [k0_pay6]

/-- Their row sums. -/
theorem pay7_at (q : FVec Ideal S4x128x64 .bf16) (k : FVec Ideal S1x1x4x128x64 .bf16) (h : Fin 4) (i : Fin 128) (o : Fin 1) :
    k0_pay7 (F := Ideal) q k (ix3 h i o) = ∑ j : Fin 128, k0_pay6 (F := Ideal) q k (ix3 h i j) := by
  pointwise [k0_pay7]

/-- The own values weighted by them. -/
theorem pay8_at (q : FVec Ideal S4x128x64 .bf16) (k v : FVec Ideal S1x1x4x128x64 .bf16) (h : Fin 4) (i : Fin 128) (d : Fin 64) :
    k0_pay8 (F := Ideal) q k v (ix3 h i d) = ∑ j : Fin 128, k0_pay6 (F := Ideal) q k (ix3 h i j) * v (ix5 0 0 h j d) := by
  pointwise [k0_pay8]

/-- The second batch entry's weights for the device's own keys. -/
theorem pay9_at (q : FVec Ideal S2x4x128x64 .bf16) (k : FVec Ideal S1x1x4x128x64 .bf16) (h : Fin 4) (i j : Fin 128) :
    k0_pay9 (F := Ideal) q k (ix3 h i j) = Ideal.exp ((∑ d : Fin 64, q (ix4 1 h i d) * k (ix5 0 0 h j d)) * scale) := by
  pointwise [k0_pay9]

/-- Their row sums. -/
theorem pay10_at (q : FVec Ideal S2x4x128x64 .bf16) (k : FVec Ideal S1x1x4x128x64 .bf16) (h : Fin 4) (i : Fin 128) (o : Fin 1) :
    k0_pay10 (F := Ideal) q k (ix3 h i o) = ∑ j : Fin 128, k0_pay9 (F := Ideal) q k (ix3 h i j) := by
  pointwise [k0_pay10]

/-- The own values weighted by them. -/
theorem pay11_at (q : FVec Ideal S2x4x128x64 .bf16) (k v : FVec Ideal S1x1x4x128x64 .bf16) (h : Fin 4) (i : Fin 128) (d : Fin 64) :
    k0_pay11 (F := Ideal) q k v (ix3 h i d) = ∑ j : Fin 128, k0_pay9 (F := Ideal) q k (ix3 h i j) * v (ix5 0 0 h j d) := by
  pointwise [k0_pay11]

/-- The band between the device's rows and its left neighbour's. -/
theorem pay12_at (me nb : BitVec 32) (r s : IVec S1x128x128 32) (i j : Fin 128) :
    k0_pay12 me nb r s (ix3 0 i j) = IntOp.cmpi .sle (IntOp.absi (IntOp.subi
      (IntOp.addi (Scalar.muli me 128#32) (r (ix3 0 i j))) (IntOp.addi (Scalar.muli nb 128#32) (s (ix3 0 i j))))) 128#32 := by
  pointwise [k0_pay12]

/-- The first batch entry's weights for the left neighbour's keys. -/
theorem pay13_at (me nb : BitVec 32) (q : FVec Ideal S2x4x128x64 .bf16) (r s : IVec S1x128x128 32) (k : FVec Ideal S1x1x1x4x128x64 .bf16)
    (h : Fin 4) (i j : Fin 128) :
    k0_pay13 (F := Ideal) me nb q r s k (ix3 h i j) = Scalar.select (k0_pay12 me nb r s (ix3 0 i j))
      (Ideal.exp ((∑ d : Fin 64, q (ix4 0 h i d) * k (ix6 0 0 0 h j d)) * scale)) 0 := by
  pointwise [k0_pay13]

/-- Row sums, the left neighbour's added. -/
theorem pay14_at (D : FVec Ideal S4x128x1 .f32) (w : FVec Ideal S4x128x128 .f32) (h : Fin 4) (i : Fin 128) (o : Fin 1) :
    k0_pay14 (F := Ideal) D w (ix3 h i o) = D (ix3 h i o) + ∑ j : Fin 128, w (ix3 h i j) := by
  pointwise [k0_pay14]

/-- Contexts, the left neighbour's added. -/
theorem pay15_at (C : FVec Ideal S4x128x64 .f32) (w : FVec Ideal S4x128x128 .f32) (v : FVec Ideal S1x1x1x4x128x64 .bf16)
    (h : Fin 4) (i : Fin 128) (d : Fin 64) :
    k0_pay15 (F := Ideal) C w v (ix3 h i d) = C (ix3 h i d) + ∑ j : Fin 128, w (ix3 h i j) * v (ix6 0 0 0 h j d) := by
  pointwise [k0_pay15]

/-- The second batch entry's weights for a neighbour's keys. -/
theorem pay16_at (q : FVec Ideal S2x4x128x64 .bf16) (M : IVec S1x128x128 1) (k : FVec Ideal S1x1x1x4x128x64 .bf16)
    (h : Fin 4) (i j : Fin 128) :
    k0_pay16 (F := Ideal) q M k (ix3 h i j) = Scalar.select (M (ix3 0 i j))
      (Ideal.exp ((∑ d : Fin 64, q (ix4 1 h i d) * k (ix6 0 0 0 h j d)) * scale)) 0 := by
  pointwise [k0_pay16]

/-- Row sums of the second batch entry, a neighbour's added. -/
theorem pay17_at (q : FVec Ideal S2x4x128x64 .bf16) (D : FVec Ideal S4x128x1 .f32) (M : IVec S1x128x128 1) (k : FVec Ideal S1x1x1x4x128x64 .bf16)
    (h : Fin 4) (i : Fin 128) (o : Fin 1) :
    k0_pay17 (F := Ideal) q D M k (ix3 h i o) = D (ix3 h i o) + ∑ j : Fin 128, k0_pay16 (F := Ideal) q M k (ix3 h i j) := by
  pointwise [k0_pay17]

/-- Contexts of the second batch entry, a neighbour's added. -/
theorem pay18_at (q : FVec Ideal S2x4x128x64 .bf16) (C : FVec Ideal S4x128x64 .f32) (M : IVec S1x128x128 1)
    (k v : FVec Ideal S1x1x1x4x128x64 .bf16) (h : Fin 4) (i : Fin 128) (d : Fin 64) :
    k0_pay18 (F := Ideal) q C M k v (ix3 h i d) = C (ix3 h i d) + ∑ j : Fin 128, k0_pay16 (F := Ideal) q M k (ix3 h i j) * v (ix6 0 0 0 h j d) := by
  pointwise [k0_pay18]

/-- The band between the device's rows and its right neighbour's. -/
theorem pay19_at (me nb : BitVec 32) (r s : IVec S1x128x128 32) (i j : Fin 128) :
    k0_pay19 me nb r s (ix3 0 i j) = IntOp.cmpi .sle (IntOp.absi (IntOp.subi
      (IntOp.addi (Scalar.muli me 128#32) (r (ix3 0 i j))) (IntOp.addi (Scalar.muli nb 128#32) (s (ix3 0 i j))))) 128#32 := by
  pointwise [k0_pay19]

/-- The first batch entry's weights for the right neighbour's keys. -/
theorem pay20_at (me nb : BitVec 32) (q : FVec Ideal S2x4x128x64 .bf16) (r s : IVec S1x128x128 32) (k : FVec Ideal S1x1x1x4x128x64 .bf16)
    (h : Fin 4) (i j : Fin 128) :
    k0_pay20 (F := Ideal) me nb q r s k (ix3 h i j) = Scalar.select (k0_pay19 me nb r s (ix3 0 i j))
      (Ideal.exp ((∑ d : Fin 64, q (ix4 0 h i d) * k (ix6 0 0 0 h j d)) * scale)) 0 := by
  pointwise [k0_pay20]

/-- Their row sums. -/
theorem pay21_at (me nb : BitVec 32) (q : FVec Ideal S2x4x128x64 .bf16) (r s : IVec S1x128x128 32) (k : FVec Ideal S1x1x1x4x128x64 .bf16)
    (h : Fin 4) (i : Fin 128) :
    k0_pay21 (F := Ideal) me nb q r s k (ix2 h i) = ∑ j : Fin 128, k0_pay20 (F := Ideal) me nb q r s k (ix3 h i j) := by
  pointwise [k0_pay21]

/-- The contexts of the first batch entry over their weights' sum. -/
theorem pay22_first_at (q : FVec Ideal S2x4x128x64 .bf16) (D0 : FVec Ideal S4x128x1 .f32) (C0 : FVec Ideal S4x128x64 .f32)
    (D1 : FVec Ideal S4x128x1 .f32) (C1 : FVec Ideal S4x128x64 .f32) (M : IVec S1x128x128 1) (w : FVec Ideal S4x128x128 .f32)
    (W : FVec Ideal S4x128 .f32) (v0 k1 v1 : FVec Ideal S1x1x1x4x128x64 .bf16) (i : Fin 128) (h : Fin 4) (d : Fin 64) :
    k0_pay22 (F := Ideal) q D0 C0 D1 C1 M w W v0 k1 v1 (ix4 0 i h d) =
      Ideal.div (C0 (ix3 h i d) + ∑ j : Fin 128, w (ix3 h i j) * v0 (ix6 0 0 0 h j d)) (D0 (ix3 h i 0) + W (ix2 h i)) := by
  pointwise [k0_pay22]

/-- The contexts of the second batch entry over their weights' sum. -/
theorem pay22_second_at (q : FVec Ideal S2x4x128x64 .bf16) (D0 : FVec Ideal S4x128x1 .f32) (C0 : FVec Ideal S4x128x64 .f32)
    (D1 : FVec Ideal S4x128x1 .f32) (C1 : FVec Ideal S4x128x64 .f32) (M : IVec S1x128x128 1) (w : FVec Ideal S4x128x128 .f32)
    (W : FVec Ideal S4x128 .f32) (v0 k1 v1 : FVec Ideal S1x1x1x4x128x64 .bf16) (i : Fin 128) (h : Fin 4) (d : Fin 64) :
    k0_pay22 (F := Ideal) q D0 C0 D1 C1 M w W v0 k1 v1 (ix4 1 i h d) =
      Ideal.div (C1 (ix3 h i d) + ∑ j : Fin 128, k0_pay16 (F := Ideal) q M k1 (ix3 h i j) * v1 (ix6 0 0 0 h j d))
        (D1 (ix3 h i 0) + ∑ j : Fin 128, k0_pay16 (F := Ideal) q M k1 (ix3 h i j)) := by
  pointwise [k0_pay22, k0_pay16]

end Cert.KernelIdeal.Attn

end
-- ==== Proof.Value.Softmax.lean ====
/-
# Softmax without and with its row maximum, and a row cut in blocks

The mathematics that the two programs differ by, over extended reals: the kernel divides the weighted sum once at the end and
takes no maximum, the reference subtracts the row's maximum and divides each weight; and the kernel sums a row block by block.
-/
module

public import Idealize.ShloMosaic.PureOps.Ideal
public import Idealize.ShloMosaic.Lib.Pointwise

@[expose] public section

noncomputable section

namespace Cert.Attn

open Idealize.ShloMosaic

/-- A real number that is not negative multiplies a sum of extended reals term by term. -/
theorem sum_mul_real {ι : Type} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha, ← ih, mul_comm (_ + _), mul_comm (f a), mul_comm (∑ j ∈ s, f j)]
    exact EReal.left_distrib_of_nonneg_of_ne_top (EReal.coe_nonneg.2 hr) (EReal.coe_ne_top r) _ _

/-- A finite sum of real numbers is the same among the extended reals. -/
theorem sum_coe {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- The exponential of a real number. -/
theorem exp_coe (r : ℝ) : Ideal.exp (r : EReal) = ((Real.exp r : ℝ) : EReal) := rfl

section Row

variable {ι : Type} [Fintype ι] (band : ι → Prop) [DecidablePred band] (s : ι → ℝ)

/-- The row's scores, the least extended real outside of the band. -/
def masked (j : ι) : EReal := if band j then (s j : EReal) else ⊥

/-- The row's weights before they are divided, without the maximum. -/
def plain (j : ι) : EReal := if band j then Ideal.exp (s j : EReal) else 0

/-- A row whose band holds something has a real number for its greatest score. -/
theorem max_real (hb : ∃ j, band j) : ∃ μ : ℝ, Finset.univ.fold max (⊥ : EReal) (masked band s) = (μ : EReal) := by
  obtain ⟨j, hj⟩ := hb
  have h1 : Finset.univ.fold max (⊥ : EReal) (masked band s) < ⊤ := by
    rw [Finset.fold_max_lt]
    refine ⟨bot_lt_top, fun x _ => ?_⟩
    unfold masked
    split_ifs
    · exact EReal.coe_lt_top _
    · exact bot_lt_top
  have h2 : (s j : EReal) ≤ Finset.univ.fold max (⊥ : EReal) (masked band s) := by
    rw [Finset.le_fold_max]
    exact .inr ⟨j, Finset.mem_univ _, by rw [masked, if_pos hj]⟩
  exact ⟨_, (EReal.coe_toReal h1.ne (fun h => (EReal.bot_lt_coe (s j)).not_ge (h ▸ h2))).symm⟩

/-- The weighted sum with each weight divided, the maximum subtracted, is the plain weighted sum divided once. -/
theorem softmax_eq (hb : ∃ j, band j) (v : ι → EReal) :
    (∑ j, v j * Ideal.div (Ideal.exp (masked band s j - Finset.univ.fold max (⊥ : EReal) (masked band s)))
        (∑ j', Ideal.exp (masked band s j' - Finset.univ.fold max (⊥ : EReal) (masked band s)))) =
      Ideal.div (∑ j, plain band s j * v j) (∑ j, plain band s j) := by
  obtain ⟨μ, hμ⟩ := max_real band s hb
  obtain ⟨j₀, hj₀⟩ := hb
  rw [hμ]
  have he : ∀ j, Ideal.exp (masked band s j - (μ : EReal)) = ((if band j then Real.exp (s j - μ) else 0 : ℝ) : EReal) := by
    intro j
    unfold masked
    split_ifs
    · rw [← EReal.coe_sub, exp_coe]
    · rw [EReal.bot_sub]; rfl
  have hp : ∀ j, plain band s j = ((Real.exp μ * (if band j then Real.exp (s j - μ) else 0) : ℝ) : EReal) := by
    intro j
    unfold plain
    split_ifs
    · rw [exp_coe, ← Real.exp_add]; congr 2; ring
    · simp
  simp only [he, hp]
  generalize hedef : (fun j => (if band j then Real.exp (s j - μ) else 0 : ℝ)) = e
  have hej : ∀ j, (if band j then Real.exp (s j - μ) else 0 : ℝ) = e j := fun j => congrFun hedef j
  simp only [hej]
  have hnn : ∀ j, 0 ≤ e j := by
    intro j; rw [← hej]; split_ifs
    · exact (Real.exp_pos _).le
    · exact le_rfl
  have hpos : 0 < ∑ j, e j :=
    Finset.sum_pos' (fun j _ => hnn j) ⟨j₀, Finset.mem_univ _, by rw [← hej, if_pos hj₀]; exact Real.exp_pos _⟩
  have hμp := Real.exp_pos μ
  rw [sum_coe, sum_coe, ← Finset.mul_sum, Ideal.div_coe (mul_pos hμp hpos).ne', sum_mul_real _ _ (by positivity)]
  refine Finset.sum_congr rfl fun j _ => ?_
  rw [Ideal.div_coe hpos.ne', mul_right_comm, mul_comm (v j), ← EReal.coe_mul, ← EReal.coe_mul]
  congr 2
  field_simp

end Row

/-- Row `i` of block `c` of sixteen blocks of 128 rows. -/
def rowOf (c : Fin 16) (i : Fin 128) : Fin 2048 := ⟨c.val * 128 + i.val, by omega⟩

/-- A sum over the 2048 rows is a sum over the blocks of the sums within them. -/
theorem sum_blocks {M : Type} [AddCommMonoid M] (f : Fin 2048 → M) : ∑ j, f j = ∑ c : Fin 16, ∑ i : Fin 128, f (rowOf c i) := by
  rw [← Finset.sum_product', ← Finset.univ_product_univ.symm]
  refine (Finset.sum_nbij' (fun p : Fin 16 × Fin 128 => rowOf p.1 p.2)
    (fun j => ((⟨j.val / 128, by omega⟩ : Fin 16), (⟨j.val % 128, by omega⟩ : Fin 128))) ?_ ?_ ?_ ?_ ?_).symm
  · intro _ _; exact Finset.mem_univ _
  · intro _ _; exact Finset.mem_univ _
  · rintro ⟨c, i⟩ _
    simp only [rowOf, Prod.mk.injEq, Fin.ext_iff]
    omega
  · intro j _
    simp only [rowOf, Fin.ext_iff]
    omega
  · intro _ _; rfl

/-- The band between two rows. -/
abbrev inBand (i j : Fin 2048) : Prop := i.val ≤ j.val + 128 ∧ j.val ≤ i.val + 128

/-- The blocks before and after a block, around the ring. -/
def leftOf (c : Fin 16) : Fin 16 := ⟨(c.val + 15) % 16, by omega⟩
def rightOf (c : Fin 16) : Fin 16 := ⟨(c.val + 1) % 16, by omega⟩

/-- The three blocks are different. -/
theorem blocks_ne (c : Fin 16) : leftOf c ≠ rightOf c ∧ c ≠ leftOf c ∧ c ≠ rightOf c := by revert c; decide

/-- A sum over a row of what vanishes outside of the band is the sum over the row's own block and the two beside it. -/
theorem sum_band {M : Type} [AddCommMonoid M] (c : Fin 16) (i : Fin 128) (f : Fin 2048 → M) (hf : ∀ j, ¬ inBand (rowOf c i) j → f j = 0) :
    ∑ j, f j = (∑ j : Fin 128, f (rowOf c j)) + (∑ j : Fin 128, f (rowOf (leftOf c) j)) + ∑ j : Fin 128, f (rowOf (rightOf c) j) := by
  rw [sum_blocks]
  obtain ⟨hlr, hcl, hcr⟩ := blocks_ne c
  have hsub : ∑ b : Fin 16, ∑ j : Fin 128, f (rowOf b j) = ∑ b ∈ ({c, leftOf c, rightOf c} : Finset (Fin 16)), ∑ j : Fin 128, f (rowOf b j) := by
    refine (Finset.sum_subset (Finset.subset_univ _) fun b _ hb => Finset.sum_eq_zero fun j _ => hf _ ?_).symm
    simp only [Finset.mem_insert, Finset.mem_singleton, not_or, Fin.ext_iff, leftOf, rightOf] at hb
    simp only [inBand, rowOf]
    omega
  rw [hsub, Finset.sum_insert (by simp [hcl, hcr]), Finset.sum_insert (by simp [hlr]), Finset.sum_singleton, add_assoc]

end Cert.Attn

end
-- ==== Proof.Value.Reads.lean ====
/-
# What the body reads of its two scratch buffers

`kv_send` holds the device's own keys and values, `kv_win` those of the two devices beside it.
-/
module

public import proofs.«01_k».proof.Proof.Ideal.Final
public import proofs.«01_k».proof.Proof.Value.Payloads
public import proofs.«01_k».proof.Proof.Value.Softmax
public import Idealize.ShloMosaic.Lib.Pointwise.IndexBridge

@[expose] public section

set_option maxRecDepth 16384

noncomputable section

namespace Cert.KernelIdeal.Attn

open Cert.KernelIdeal Cert.KernelIdeal.Gen Cert.KernelIdeal.Run Cert.Attn
open Idealize.ShloMosaic
open Idealize.ShloMosaic.TcCoe

variable (m : (ℓ : Loc nD τ sig) → Buf (Elt Ideal) ℓ) (c : Dev nD)

/-- Keys (`a = 0`) or values of a device. -/
def kvOf (a : Fin 2) : FVec Ideal S2x128x4x64 .bf16 := if a.val = 0 then kBlk m c else vBlk m c

/-- What is sent, at an index. -/
theorem sent_at (a b : Fin 2) (h : Fin 4) (j : Fin 128) (d : Fin 64) :
    sent m c (ix5 a b h j d) = kvOf m c a (ix4 b j h d) := by
  unfold kvOf
  show (if a.val = 0 then k0_pay2 (kBlk m c) (ValueIdx.ix5 0 b h j d) else k0_pay3 (vBlk m c) (ValueIdx.ix5 0 b h j d)) = _
  rw [← ix5_eq_valueIdx]
  by_cases ha : a.val = 0
  · rw [if_pos ha, if_pos ha]; exact pay2_at _ 0 b h j d
  · rw [if_neg ha, if_neg ha]; exact pay3_at _ 0 b h j d

/-- What has arrived, at an index. -/
theorem got_at (s a b : Fin 2) (h : Fin 4) (j : Fin 128) (d : Fin 64) :
    got m c (ix6 s a b h j d) = kvOf m (peer (opp s) c) a (ix4 b j h d) := by
  show sent m (peer (opp s) c) (ValueIdx.ix5 a b h j d) = _
  rw [← ix5_eq_valueIdx]
  exact sent_at m _ a b h j d

/-- A read of `kv_send`, at an index. -/
theorem ownAt_at (a b : Fin 2) (hin) (h : Fin 4) (j : Fin 128) (d : Fin 64) :
    ownAt m c ![a.val, b.val, 0, 0, 0] hin (ix5 0 0 h j d) = kvOf m c a (ix4 b j h d) := by
  rw [← sent_at]
  refine congrArg (sent m c) (funext fun x => Fin.ext ?_)
  show (![a.val, b.val, 0, 0, 0] : Fin 5 → ℕ) x + 1 * (ix5 (0 : Fin 1) (0 : Fin 1) h j d x).val = _
  fin_cases x <;> simp [ix5]

/-- A read of `kv_win`, at an index. -/
theorem winAt_at (s a b : Fin 2) (hin) (h : Fin 4) (j : Fin 128) (d : Fin 64) :
    winAt m c ![s.val, a.val, b.val, 0, 0, 0] hin (ix6 0 0 0 h j d) = kvOf m (peer (opp s) c) a (ix4 b j h d) := by
  rw [← got_at]
  refine congrArg (got m c) (funext fun x => Fin.ext ?_)
  show (![s.val, a.val, b.val, 0, 0, 0] : Fin 6 → ℕ) x + 1 * (ix6 (0 : Fin 1) (0 : Fin 1) (0 : Fin 1) h j d x).val = _
  fin_cases x <;> simp [ix6]

/-- The first slot is the left neighbour's, the second the right one's. -/
theorem peer_left : peer (opp 0) c = leftOf c := by revert c; decide
theorem peer_right : peer (opp 1) c = rightOf c := by revert c; decide

/-! ## The masks -/

/-- The words of the device's number and of its neighbours'. -/
theorem wMe_eq : wMe c = BitVec.ofNat 32 c.val := by revert c; decide
theorem wLeft_eq : wLeft c = BitVec.ofNat 32 (leftOf c).val := by revert c; decide
theorem wRight_eq : wRight c = BitVec.ofNat 32 (rightOf c).val := by revert c; decide

/-- The row's and the column's number, at an index. -/
theorem rowIx_at (i j : Fin 128) : rowIx (ix3 0 i j) = BitVec.ofNat 32 i.val := by
  pointwise [rowIx]
theorem colIx_at (i j : Fin 128) : colIx (ix3 0 i j) = BitVec.ofNat 32 j.val := by
  pointwise [colIx]

/-- A row's number in the whole array, as the kernel computes it. -/
theorem row_word (n i : ℕ) : IntOp.addi (Scalar.muli (BitVec.ofNat 32 n) 128#32) (BitVec.ofNat 32 i) = BitVec.ofNat 32 (n * 128 + i) := by
  rw [BitVec.ofNat_add, BitVec.ofNat_mul]
  rfl

end Cert.KernelIdeal.Attn

end
-- ==== Proof.Value.Ref.lean ====
/-
# The reference, cut into named steps and read at an index

The generated run of the reference states its result as one nested term. Here each step of the attention has a name (the
projection, the band, the scores, their row maximum, the exponentials, their row sum, the weights, the context), and each is
read at an index.
-/
module

public import proofs.«01_k».proof.Proof.Gen.ReferenceIdeal
public import proofs.«01_k».proof.Proof.Gen.ReferenceIdeal.Run
public import Idealize.ShloMosaic.Lib.Pointwise
public import Idealize.ShloMosaic.Lib.Routing.OpsOrder

@[expose] public section

set_option maxRecDepth 16384

noncomputable section

namespace Cert.ReferenceIdeal.Attn

open Cert.ReferenceIdeal Cert.ReferenceIdeal.Facts Cert.ReferenceIdeal.Gen Cert.ReferenceIdeal.Value
open Idealize.ShloMosaic

/-- The queries: the input times the query projection, cut into heads. -/
def qR (x : FVec Ideal S2x2048x512 .bf16) (wq : FVec Ideal S512x256 .bf16) : FVec Ideal S2x2048x4x64 .f32 :=
  shapeCast _ (Host.dotGeneral dot_S2x2048x512_S512x256_S2x2048x256_2_0_01_1_n_n none (extf .f32 x bitsLt_bf16_f32)
    (extf .f32 wq bitsLt_bf16_f32)) shapeCasts_S2x2048x256_S2x2048x4x64

/-- The band: row and column at most 128 apart. -/
def bandR : IVec S2048x2048 1 :=
  cmpi .sle (absi (subi
      (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 128#32))

/-- The scores, the least extended real outside of the band. -/
def scoreR (q : FVec Ideal S2x2048x4x64 .f32) (k : FVec Ideal S2x2048x4x64 .bf16) : FVec Ideal S2x4x2048x2048 .f32 :=
  select (broadcastInDim S2x4x2048x2048 ![0, 1, 2, 3] bcast_S1x1x2048x2048_S2x4x2048x2048_0_1_2_3
      (broadcastInDim S1x1x2048x2048 ![2, 3] bcast_S2048x2048_S1x1x2048x2048_2_3 bandR))
    (mulf (Host.dotGeneral dot_S2x2048x4x64_S2x2048x4x64_S2x4x2048x2048_3_3_1_1_02_02 none q (extf .f32 k bitsLt_bf16_f32))
      (broadcastInDim S2x4x2048x2048 ![] bcast_S_S2x4x2048x2048 (constant S_ .f32 0x3E000000#32)))
    (broadcastInDim S2x4x2048x2048 ![] bcast_S_S2x4x2048x2048 (constant S_ .f32 0xFF800000#32))

/-- Each row's greatest score. -/
def maxR (s : FVec Ideal S2x4x2048x2048 .f32) : FVec Ideal S2x4x2048 .f32 :=
  Host.reduce FloatOps.maximumf s (constant S_ .f32 0xFF800000#32) reducesTo_S2x4x2048x2048_S2x4x2048_d3 h_S_

/-- The exponential of each score less its row's greatest. -/
def expR (s : FVec Ideal S2x4x2048x2048 .f32) : FVec Ideal S2x4x2048x2048 .f32 :=
  Host.exp (subf s (broadcastInDim S2x4x2048x2048 ![0, 1, 2, 3] bcast_S2x4x2048x1_S2x4x2048x2048_0_1_2_3
    (broadcastInDim S2x4x2048x1 ![0, 1, 2] bcast_S2x4x2048_S2x4x2048x1_0_1_2 (maxR s))))

/-- Whether the band holds anything of a row. -/
def keepR : IVec S2048 1 := Host.reduce IntOp.ori bandR (constantI S_ 1 0#1) reducesTo_S2048x2048_S2048_d1 h_S_

/-- Each row's sum of the exponentials. -/
def sumR (e : FVec Ideal S2x4x2048x2048 .f32) : FVec Ideal S2x4x2048 .f32 :=
  Host.reduceAdd e (constant S_ .f32 0x00000000#32) reducesTo_S2x4x2048x2048_S2x4x2048_d3 h_S_

/-- What a row's exponentials are divided by: their sum, 1 where the band holds nothing of the row. -/
def divisorR (e : FVec Ideal S2x4x2048x2048 .f32) : FVec Ideal S2x4x2048x1 .f32 :=
  select (broadcastInDim S2x4x2048x1 ![0, 1, 2, 3] bcast_S1x1x2048x1_S2x4x2048x1_0_1_2_3
      (broadcastInDim S1x1x2048x1 ![2] bcast_S2048_S1x1x2048x1_2 keepR))
    (broadcastInDim S2x4x2048x1 ![0, 1, 2] bcast_S2x4x2048_S2x4x2048x1_0_1_2 (sumR e))
    (broadcastInDim S2x4x2048x1 ![] bcast_S_S2x4x2048x1 (constant S_ .f32 0x3F800000#32))

/-- The weights: the exponentials over their row's sum. -/
def weightR (e : FVec Ideal S2x4x2048x2048 .f32) : FVec Ideal S2x4x2048x2048 .f32 :=
  select (broadcastInDim S2x4x2048x2048 ![0, 1, 2, 3] bcast_S1x1x2048x1_S2x4x2048x2048_0_1_2_3
      (broadcastInDim S1x1x2048x1 ![2] bcast_S2048_S1x1x2048x1_2 keepR))
    (Host.divf e (broadcastInDim S2x4x2048x2048 ![0, 1, 2, 3] bcast_S2x4x2048x1_S2x4x2048x2048_0_1_2_3 (divisorR e)))
    (broadcastInDim S2x4x2048x2048 ![] bcast_S_S2x4x2048x2048 (constant S_ .f32 0x00000000#32))

/-- The context: the weighted sums of the values. -/
def ctxR (v : FVec Ideal S2x2048x4x64 .bf16) (w : FVec Ideal S2x4x2048x2048 .f32) : FVec Ideal S2x2048x4x64 .f32 :=
  transpose S2x2048x4x64 [0, 3, 1, 2]
    (Host.dotGeneral dot_S2x2048x4x64_S2x4x2048x2048_S2x4x64x2048_1_3_3_2_02_01 none (extf .f32 v bitsLt_bf16_f32) w)
    transposes_S2x4x64x2048_S2x2048x4x64_0_3_1_2

/-- The context with its heads side by side, times the output projection. -/
def outR (x : FVec Ideal S2x2048x512 .bf16) (wq : FVec Ideal S512x256 .bf16) (k v : FVec Ideal S2x2048x4x64 .bf16)
    (wo : FVec Ideal S256x512 .bf16) : FVec Ideal S2x2048x512 .f32 :=
  Host.dotGeneral dot_S2x2048x256_S256x512_S2x2048x512_2_0_01_1_n_n none
    (shapeCast _ (ctxR v (weightR (expR (scoreR (qR x wq) k)))) shapeCasts_S2x2048x4x64_S2x2048x256)
    (extf .f32 wo bitsLt_bf16_f32)

/-- The result that the run states is this attention of the arguments. -/
theorem result_eq (m : (ℓ : Loc nD τ sig) → Buf (Elt Ideal) ℓ) (c : Dev nD) :
    res_main_v39 m c = outR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## The steps at an index -/

/-- A word that is a small number, or the negative of one, is at most 128 from zero exactly as the number is. -/
theorem near_word (w : BitVec 32) (n : ℕ) (hn : n < 2048) (h : (w.msb = false ∧ w.toNat = n) ∨ (w.msb = true ∧ (-w).toNat = n)) :
    IntOp.cmpi .sle (IntOp.absi w) 128#32 = BitVec.ofBool (decide (n ≤ 128)) := by
  have key : ∀ u : BitVec 32, u.toNat = n → u.sle 128#32 = decide (n ≤ 128) := by
    intro u hu
    have hm : u.msb = false := by
      rw [BitVec.msb_eq_decide, hu, decide_eq_false_iff_not]; omega
    rw [BitVec.sle_eq_decide, BitVec.toInt_eq_toNat_of_msb hm, hu, show (128#32).toInt = 128 from rfl]
    simp only [decide_eq_decide]; omega
  unfold IntOp.cmpi IntOp.absi
  rcases h with ⟨h, h'⟩ | ⟨h, h'⟩
  · simp only [h, Bool.false_eq_true, if_false]
    exact congrArg BitVec.ofBool (key _ h')
  · simp only [h, if_true]
    exact congrArg BitVec.ofBool (key _ h')

/-- The difference of two small words is at most 128 from zero exactly within the band. -/
theorem band_word (i j : ℕ) (hi : i < 2048) (hj : j < 2048) :
    IntOp.cmpi .sle (IntOp.absi (IntOp.subi (BitVec.ofNat 32 i) (BitVec.ofNat 32 j))) 128#32 =
      BitVec.ofBool (decide (i ≤ j + 128 ∧ j ≤ i + 128)) := by
  have hn := near_word (BitVec.ofNat 32 i - BitVec.ofNat 32 j) (i - j + (j - i)) (by omega) (by
    rcases le_or_gt j i with h | h
    · refine .inl ⟨?_, ?_⟩
      · rw [BitVec.msb_eq_decide, decide_eq_false_iff_not]
        simp only [BitVec.toNat_sub, BitVec.toNat_ofNat]; omega
      · simp only [BitVec.toNat_sub, BitVec.toNat_ofNat]; omega
    · refine .inr ⟨?_, ?_⟩
      · rw [BitVec.msb_eq_decide, decide_eq_true_iff]
        simp only [BitVec.toNat_sub, BitVec.toNat_ofNat]; omega
      · simp only [BitVec.toNat_neg, BitVec.toNat_sub, BitVec.toNat_ofNat]; omega)
  refine hn.trans (congrArg BitVec.ofBool ?_)
  simp only [decide_eq_decide]; omega

/-- The mask's fill is the least extended real. -/
theorem fill_eq : Ideal.ofBits .f32 0xFF800000#32 = ⊥ := by
  simp [Ideal.ofBits, Ideal.ieee]

/-- The scale is an eighth. -/
theorem scale_eq : Ideal.ofBits .f32 0x3E000000#32 = ((1 / 8 : ℝ) : EReal) := by
  simp [Ideal.ofBits, Ideal.ieee]
  norm_cast
  norm_num

/-- A query: the row of the input against the column of its head and lane. -/
theorem qR_at (x wq) (b : Fin 2) (i : Fin 2048) (h : Fin 4) (d : Fin 64) :
    qR x wq (ix4 b i h d) = ∑ e : Fin 512, x (ix3 b i e) * wq (ix2 e ⟨h.val * 64 + d.val, by omega⟩) := by
  pointwise [qR]

/-- The band at a row and a column. -/
theorem bandR_at (i j : Fin 2048) : bandR (ix2 i j) = BitVec.ofBool (decide (i.val ≤ j.val + 128 ∧ j.val ≤ i.val + 128)) := by
  pointwise [bandR]
  exact band_word _ _ i.isLt j.isLt

/-- A score: the scaled product of a query and a key, within the band. -/
theorem scoreR_at (q k) (b : Fin 2) (h : Fin 4) (i j : Fin 2048) :
    scoreR q k (ix4 b h i j) = if i.val ≤ j.val + 128 ∧ j.val ≤ i.val + 128 then
      (∑ d : Fin 64, q (ix4 b i h d) * k (ix4 b j h d)) * Ideal.ofBits .f32 0x3E000000#32 else ⊥ := by
  pointwise [scoreR]
  rw [bandR_at, fill_eq]
  split_ifs with hb <;> simp [hb, Scalar.select]

/-- A row's greatest score. -/
theorem maxR_at (s) (b : Fin 2) (h : Fin 4) (i : Fin 2048) :
    maxR s (ix3 b h i) = Finset.univ.fold max (⊥ : EReal) fun j : Fin 2048 => s (ix4 b h i j) := by
  pointwise [maxR]
  rw [fill_eq]

/-- The exponential of a score less its row's greatest. -/
theorem expR_at (s) (b : Fin 2) (h : Fin 4) (i j : Fin 2048) :
    expR s (ix4 b h i j) = Ideal.exp (s (ix4 b h i j) - maxR s (ix3 b h i)) := by
  pointwise [expR]

/-- The band holds something of every row: the diagonal. -/
theorem keepR_at (i : Fin 2048) : keepR (ix1 i) = 1#1 := by
  pointwise [keepR]
  rw [Routing.fold_ori]
  exact ⟨i, by simp [bandR_at]⟩

/-- A row's sum. -/
theorem sumR_at (e) (b : Fin 2) (h : Fin 4) (i : Fin 2048) :
    sumR e (ix3 b h i) = ∑ j : Fin 2048, e (ix4 b h i j) := by
  pointwise [sumR]

/-- A choice between two columns by a bit of the row, at an index. -/
theorem column_choice_at (K : IVec S2048 1) (D : FVec Ideal S2x4x2048 .f32) (b : Fin 2) (h : Fin 4) (i : Fin 2048) (o : Fin 1) :
    select (broadcastInDim S2x4x2048x1 ![0, 1, 2, 3] bcast_S1x1x2048x1_S2x4x2048x1_0_1_2_3
        (broadcastInDim S1x1x2048x1 ![2] bcast_S2048_S1x1x2048x1_2 K))
      (broadcastInDim S2x4x2048x1 ![0, 1, 2] bcast_S2x4x2048_S2x4x2048x1_0_1_2 D)
      (broadcastInDim S2x4x2048x1 ![] bcast_S_S2x4x2048x1 (constant S_ .f32 0x3F800000#32)) (ix4 b h i o) =
    Scalar.select (K (ix1 i)) (D (ix3 b h i)) 1 := by
  pointwise []

/-- A quotient by a column, chosen by a bit of the row, at an index. -/
theorem quotient_choice_at (K : IVec S2048 1) (e : FVec Ideal S2x4x2048x2048 .f32) (D : FVec Ideal S2x4x2048x1 .f32)
    (b : Fin 2) (h : Fin 4) (i j : Fin 2048) :
    select (broadcastInDim S2x4x2048x2048 ![0, 1, 2, 3] bcast_S1x1x2048x1_S2x4x2048x2048_0_1_2_3
        (broadcastInDim S1x1x2048x1 ![2] bcast_S2048_S1x1x2048x1_2 K))
      (Host.divf e (broadcastInDim S2x4x2048x2048 ![0, 1, 2, 3] bcast_S2x4x2048x1_S2x4x2048x2048_0_1_2_3 D))
      (broadcastInDim S2x4x2048x2048 ![] bcast_S_S2x4x2048x2048 (constant S_ .f32 0x00000000#32)) (ix4 b h i j) =
    Scalar.select (K (ix1 i)) (Ideal.div (e (ix4 b h i j)) (D (ix4 b h i 0))) 0 := by
  pointwise []

/-- A row's divisor is its sum. -/
theorem divisorR_at (e) (b : Fin 2) (h : Fin 4) (i : Fin 2048) (o : Fin 1) : divisorR e (ix4 b h i o) = sumR e (ix3 b h i) :=
  (column_choice_at keepR (sumR e) b h i o).trans (by rw [keepR_at]; simp [Scalar.select])

/-- A weight: the exponential over its row's sum. -/
theorem weightR_at (e) (b : Fin 2) (h : Fin 4) (i j : Fin 2048) :
    weightR e (ix4 b h i j) = Ideal.div (e (ix4 b h i j)) (sumR e (ix3 b h i)) :=
  (quotient_choice_at keepR e (divisorR e) b h i j).trans (by rw [keepR_at, divisorR_at]; simp [Scalar.select])

/-- A context: the weighted sum of the values. -/
theorem ctxR_at (v w) (b : Fin 2) (i : Fin 2048) (h : Fin 4) (d : Fin 64) :
    ctxR v w (ix4 b i h d) = ∑ j : Fin 2048, v (ix4 b j h d) * w (ix4 b h i j) := by
  pointwise [ctxR]

/-- An output: the row of contexts against the column of the output projection. -/
theorem outR_at (x wq k v wo) (b : Fin 2) (i : Fin 2048) (f : Fin 512) :
    outR x wq k v wo (ix3 b i f) = ∑ g : Fin 256,
      ctxR v (weightR (expR (scoreR (qR x wq) k))) (ix4 b i ⟨g.val / 64, by omega⟩ ⟨g.val % 64, by omega⟩) * wo (ix2 g f) := by
  pointwise [outR]

end Cert.ReferenceIdeal.Attn

end
-- ==== Proof.Value.Context.lean ====
/-
# The kernel's context at an index

A context is one quotient: the weighted sum of the values of three blocks of rows over the sum of their weights.
-/
module

public import proofs.«01_k».proof.Proof.Value.Reads
public import proofs.«01_k».proof.Proof.Value.Ref

@[expose] public section

set_option maxRecDepth 16384

noncomputable section

namespace Cert.KernelIdeal.Attn

open Cert.KernelIdeal Cert.KernelIdeal.Gen Cert.KernelIdeal.Run Cert.Attn
open Idealize.ShloMosaic
open Idealize.ShloMosaic.TcCoe

variable (m : (ℓ : Loc nD τ sig) → Buf (Elt Ideal) ℓ) (c : Dev nD)

/-- The band between the device's rows and its left neighbour's. -/
theorem maskLeft_at (i j : Fin 128) :
    k0_pay12 (wMe c) (wLeft c) rowIx colIx (ix3 0 i j) = BitVec.ofBool (decide (inBand (rowOf c i) (rowOf (leftOf c) j))) := by
  rw [pay12_at, rowIx_at, colIx_at, wMe_eq, wLeft_eq, row_word, row_word]
  exact ReferenceIdeal.Attn.band_word _ _ (rowOf c i).isLt (rowOf (leftOf c) j).isLt

/-- The band between the device's rows and its right neighbour's. -/
theorem maskRight_at (i j : Fin 128) :
    k0_pay19 (wMe c) (wRight c) rowIx colIx (ix3 0 i j) = BitVec.ofBool (decide (inBand (rowOf c i) (rowOf (rightOf c) j))) := by
  rw [pay19_at, rowIx_at, colIx_at, wMe_eq, wRight_eq, row_word, row_word]
  exact ReferenceIdeal.Attn.band_word _ _ (rowOf c i).isLt (rowOf (rightOf c) j).isLt

/-- A choice by a decided bit. -/
theorem select_bit (P : Prop) [Decidable P] (x y : EReal) : Scalar.select (BitVec.ofBool (decide P)) x y = if P then x else y := by
  by_cases h : P <;> simp [h, Scalar.select]

/-- Two rows of one block are always in the band. -/
theorem own_inBand (i j : Fin 128) : inBand (rowOf c i) (rowOf c j) := by
  simp only [inBand, rowOf]; omega

/-- The score of a row of device `c` and a row of device `e`. -/
def scoreOf (e : Dev nD) (b : Fin 2) (h : Fin 4) (i j : Fin 128) : EReal :=
  (∑ d : Fin 64, k0_pay4 (F := Ideal) (xBlk m c) (wqBlk m c) (ix4 b h i d) * kvOf m e 0 (ix4 b j h d)) * scale

/-- Its weight: nothing outside of the band. -/
def weightOf (e : Dev nD) (b : Fin 2) (h : Fin 4) (i j : Fin 128) : EReal :=
  if inBand (rowOf c i) (rowOf e j) then Ideal.exp (scoreOf m c e b h i j) else 0

/-- The sums over the rows of one device. -/
def valueSum (e : Dev nD) (b : Fin 2) (h : Fin 4) (i : Fin 128) (d : Fin 64) : EReal :=
  ∑ j : Fin 128, weightOf m c e b h i j * kvOf m e 1 (ix4 b j h d)
/-- The sum of the weights over the rows of one device. -/
def weightSum (e : Dev nD) (b : Fin 2) (h : Fin 4) (i : Fin 128) : EReal :=
  ∑ j : Fin 128, weightOf m c e b h i j

/-! ## The weights that the body computes -/

/-- The weights that the body computes for its own rows, of the first batch entry, -/
theorem ownFirst_at (h : Fin 4) (i j : Fin 128) (hin) :
    k0_pay6 (F := Ideal) (k0_pay5 (xBlk m c) (wqBlk m c)) (ownAt m c ![0, 0, 0, 0, 0] hin) (ix3 h i j) = weightOf m c c 0 h i j := by
  rw [weightOf, if_pos (own_inBand c i j), pay6_at, scoreOf]
  simp only [pay5_at]
  refine congrArg (fun x => Ideal.exp (x * scale)) (Finset.sum_congr rfl fun d _ => congrArg _ ?_)
  exact ownAt_at m c 0 0 hin h j d

/-- and of the second; -/
theorem ownSecond_at (h : Fin 4) (i j : Fin 128) (hin) :
    k0_pay9 (F := Ideal) (k0_pay4 (xBlk m c) (wqBlk m c)) (ownAt m c ![0, 1, 0, 0, 0] hin) (ix3 h i j) = weightOf m c c 1 h i j := by
  rw [weightOf, if_pos (own_inBand c i j), pay9_at, scoreOf]
  refine congrArg (fun x => Ideal.exp (x * scale)) (Finset.sum_congr rfl fun d _ => congrArg _ ?_)
  exact ownAt_at m c 0 1 hin h j d

/-- for the left neighbour's rows, of the first batch entry, -/
theorem leftFirst_at (h : Fin 4) (i j : Fin 128) (hin) :
    k0_pay13 (F := Ideal) (wMe c) (wLeft c) (k0_pay4 (xBlk m c) (wqBlk m c)) rowIx colIx (winAt m c ![0, 0, 0, 0, 0, 0] hin) (ix3 h i j)
      = weightOf m c (leftOf c) 0 h i j := by
  rw [weightOf, pay13_at, maskLeft_at, select_bit, scoreOf]
  refine congrArg (fun x => if inBand (rowOf c i) (rowOf (leftOf c) j) then Ideal.exp (x * scale) else 0)
    (Finset.sum_congr rfl fun d _ => congrArg _ ?_)
  rw [← peer_left]
  exact winAt_at m c 0 0 0 hin h j d

/-- and of the second; -/
theorem leftSecond_at (h : Fin 4) (i j : Fin 128) (hin) :
    k0_pay16 (F := Ideal) (k0_pay4 (xBlk m c) (wqBlk m c)) (k0_pay12 (wMe c) (wLeft c) rowIx colIx) (winAt m c ![0, 0, 1, 0, 0, 0] hin) (ix3 h i j)
      = weightOf m c (leftOf c) 1 h i j := by
  rw [weightOf, pay16_at, maskLeft_at, select_bit, scoreOf]
  refine congrArg (fun x => if inBand (rowOf c i) (rowOf (leftOf c) j) then Ideal.exp (x * scale) else 0)
    (Finset.sum_congr rfl fun d _ => congrArg _ ?_)
  rw [← peer_left]
  exact winAt_at m c 0 0 1 hin h j d

/-- for the right neighbour's rows, of the first batch entry, -/
theorem rightFirst_at (h : Fin 4) (i j : Fin 128) (hin) :
    k0_pay20 (F := Ideal) (wMe c) (wRight c) (k0_pay4 (xBlk m c) (wqBlk m c)) rowIx colIx (winAt m c ![1, 0, 0, 0, 0, 0] hin) (ix3 h i j)
      = weightOf m c (rightOf c) 0 h i j := by
  rw [weightOf, pay20_at, maskRight_at, select_bit, scoreOf]
  refine congrArg (fun x => if inBand (rowOf c i) (rowOf (rightOf c) j) then Ideal.exp (x * scale) else 0)
    (Finset.sum_congr rfl fun d _ => congrArg _ ?_)
  rw [← peer_right]
  exact winAt_at m c 1 0 0 hin h j d

/-- and of the second. -/
theorem rightSecond_at (h : Fin 4) (i j : Fin 128) (hin) :
    k0_pay16 (F := Ideal) (k0_pay4 (xBlk m c) (wqBlk m c)) (k0_pay19 (wMe c) (wRight c) rowIx colIx) (winAt m c ![1, 0, 1, 0, 0, 0] hin) (ix3 h i j)
      = weightOf m c (rightOf c) 1 h i j := by
  rw [weightOf, pay16_at, maskRight_at, select_bit, scoreOf]
  refine congrArg (fun x => if inBand (rowOf c i) (rowOf (rightOf c) j) then Ideal.exp (x * scale) else 0)
    (Finset.sum_congr rfl fun d _ => congrArg _ ?_)
  rw [← peer_right]
  exact winAt_at m c 1 0 1 hin h j d

/-! ## The values that the body reads -/

/-- The values that it reads: its own, -/
theorem ownValue_at (b : Fin 2) (h : Fin 4) (j : Fin 128) (d : Fin 64) (hin) :
    ownAt m c ![1, b.val, 0, 0, 0] hin (ix5 0 0 h j d) = kvOf m c 1 (ix4 b j h d) := ownAt_at m c 1 b hin h j d
/-- the left neighbour's, -/
theorem leftValue_at (b : Fin 2) (h : Fin 4) (j : Fin 128) (d : Fin 64) (hin) :
    winAt m c ![0, 1, b.val, 0, 0, 0] hin (ix6 0 0 0 h j d) = kvOf m (leftOf c) 1 (ix4 b j h d) := by
  rw [← peer_left]; exact winAt_at m c 0 1 b hin h j d
/-- and the right neighbour's. -/
theorem rightValue_at (b : Fin 2) (h : Fin 4) (j : Fin 128) (d : Fin 64) (hin) :
    winAt m c ![1, 1, b.val, 0, 0, 0] hin (ix6 0 0 0 h j d) = kvOf m (rightOf c) 1 (ix4 b j h d) := by
  rw [← peer_right]; exact winAt_at m c 1 1 b hin h j d

/-! ## The context -/

/-- Three sums over three blocks. -/
def overBlocks (f : Dev nD → EReal) : EReal := f c + f (leftOf c) + f (rightOf c)

/-- The first batch entry's contexts. -/
theorem ctxFirst_at (i : Fin 128) (h : Fin 4) (d : Fin 64) :
    ctxAt m c (ix4 0 i h d) = Ideal.div (overBlocks c fun e => valueSum m c e 0 h i d) (overBlocks c fun e => weightSum m c e 0 h i) := by
  unfold ctxAt
  rw [pay22_first_at, pay15_at, pay8_at, pay14_at, pay7_at, pay21_at]
  unfold overBlocks valueSum weightSum
  simp only [ownFirst_at, leftFirst_at, rightFirst_at]
  refine congrArg₂ Ideal.div (congrArg₂ (· + ·) (congrArg₂ (· + ·) ?_ ?_) ?_) rfl
  · exact Finset.sum_congr rfl fun j _ => congrArg _ (ownValue_at m c 0 h j d _)
  · exact Finset.sum_congr rfl fun j _ => congrArg _ (leftValue_at m c 0 h j d _)
  · exact Finset.sum_congr rfl fun j _ => congrArg _ (rightValue_at m c 0 h j d _)

/-- The second batch entry's contexts. -/
theorem ctxSecond_at (i : Fin 128) (h : Fin 4) (d : Fin 64) :
    ctxAt m c (ix4 1 i h d) = Ideal.div (overBlocks c fun e => valueSum m c e 1 h i d) (overBlocks c fun e => weightSum m c e 1 h i) := by
  unfold ctxAt
  rw [pay22_second_at, pay18_at, pay11_at, pay17_at, pay10_at]
  unfold overBlocks valueSum weightSum
  simp only [ownSecond_at, leftSecond_at, rightSecond_at]
  refine congrArg₂ Ideal.div (congrArg₂ (· + ·) (congrArg₂ (· + ·) ?_ ?_) ?_) rfl
  · exact Finset.sum_congr rfl fun j _ => congrArg _ (ownValue_at m c 1 h j d _)
  · exact Finset.sum_congr rfl fun j _ => congrArg _ (leftValue_at m c 1 h j d _)
  · exact Finset.sum_congr rfl fun j _ => congrArg _ (rightValue_at m c 1 h j d _)

/-- Every context. -/
theorem ctxAt_at (b : Fin 2) (i : Fin 128) (h : Fin 4) (d : Fin 64) :
    ctxAt m c (ix4 b i h d) = Ideal.div (overBlocks c fun e => valueSum m c e b h i d) (overBlocks c fun e => weightSum m c e b h i) := by
  fin_cases b
  · exact ctxFirst_at m c i h d
  · exact ctxSecond_at m c i h d

/-- The block that a device stores. -/
theorem outAt_at (b : Fin 2) (i : Fin 128) (f : Fin 512) :
    outAt m c (ix3 b i f) = ∑ g : Fin 256, ctxAt m c (ix4 b i ⟨g.val / 64, by omega⟩ ⟨g.val % 64, by omega⟩) * woBlk m c (ix2 g f) :=
  pay1_at (ctxAt m c) (woBlk m c) b i f

end Cert.KernelIdeal.Attn

end
-- ==== Proof.Value.Finite.lean ====
/-
# Real scores

Sums and products of real numbers are real, and an element that passes the precondition's test is one.
-/
module

public import proofs.«01_k».proof.Defs
public import proofs.«01_k».proof.Proof.Value.Softmax

@[expose] public section

set_option maxRecDepth 16384

noncomputable section

namespace Cert.Attn

open Idealize.ShloMosaic

/-- An extended real that is a real number. -/
def IsReal (x : EReal) : Prop := ∃ r : ℝ, x = (r : EReal)

/-- A product of real numbers is one. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- So is a sum. -/
theorem IsReal.sum {ι : Type} {s : Finset ι} {f : ι → EReal} (h : ∀ j, IsReal (f j)) : IsReal (∑ j ∈ s, f j) := by
  choose r hr using h
  exact ⟨∑ j ∈ s, r j, by rw [← sum_coe]; exact Finset.sum_congr rfl fun j _ => hr j⟩

/-- The precondition's bound is the greatest extended real. -/
theorem bound_eq : Ideal.ofBits .bf16 0x7F80#16 = ⊤ := by
  simp [Ideal.ofBits, Ideal.ieee]

/-- What is smaller than it in absolute value is real. -/
theorem isReal_of_test {x : EReal} (h : Ideal.cmp .olt (max x (-x)) ⊤ = 1#1) : IsReal x := by
  have hlt : max x (-x) < ⊤ := by
    by_contra hn
    simp [Ideal.cmp, hn] at h
  induction x with
  | bot => simp at hlt
  | top => simp at hlt
  | coe r => exact ⟨r, rfl⟩

end Cert.Attn

namespace Cert.Pre_scores_finite_KernelIdeal

open Idealize.ShloMosaic Cert.Attn

variable [Facts] (x : FVec Ideal S2x128x512 .bf16) (wq : FVec Ideal S512x256 .bf16) (k v : FVec Ideal S2x128x4x64 .bf16)
  (wo : FVec Ideal S256x512 .bf16)

/-- The test of the input, at an index, -/
theorem real_x (h : (fn (F := Ideal) x wq k v wo).1 = fun _ => 1#1) (b : Fin 2) (i : Fin 128) (e : Fin 512) : IsReal (x (ix3 b i e)) := by
  refine isReal_of_test ?_
  have h' := congrFun h (ix3 b i e)
  rw [← bound_eq]
  rw [← h']
  pointwise [fn]
  rfl

/-- of the query projection, -/
theorem real_wq (h : (fn (F := Ideal) x wq k v wo).2.1 = fun _ => 1#1) (e : Fin 512) (f : Fin 256) : IsReal (wq (ix2 e f)) := by
  refine isReal_of_test ?_
  have h' := congrFun h (ix2 e f)
  rw [← bound_eq]
  rw [← h']
  pointwise [fn]
  rfl

/-- and of the keys. -/
theorem real_k (h : (fn (F := Ideal) x wq k v wo).2.2 = fun _ => 1#1) (b : Fin 2) (j : Fin 128) (a : Fin 4) (d : Fin 64) :
    IsReal (k (ix4 b j a d)) := by
  refine isReal_of_test ?_
  have h' := congrFun h (ix4 b j a d)
  rw [← bound_eq]
  rw [← h']
  pointwise [fn]
  rfl

end Cert.Pre_scores_finite_KernelIdeal

end
-- ==== Proof.Value.Equal.lean ====
/-
# The kernel's blocks are the reference's

Each device's block of the result, from the blocks of whole arrays whose scores are real, is its block of the attention of the
whole arrays.
-/
module

public import proofs.«01_k».proof.Proof.Value.Context
public import proofs.«01_k».proof.Proof.Value.Finite

@[expose] public section

set_option maxRecDepth 16384

noncomputable section

namespace Cert.KernelIdeal.Attn

open Cert.KernelIdeal Cert.KernelIdeal.Gen Cert.KernelIdeal.Run Cert.Attn Cert.ReferenceIdeal.Attn
open Idealize.ShloMosaic
open Idealize.ShloMosaic.TcCoe

/-- The devices hold the blocks of whole arrays. -/
structure Holds (m : (ℓ : Loc nD τ sig) → Buf (Elt Ideal) ℓ) (x : FVec Ideal ReferenceIdeal.S2x2048x512 .bf16) (wq : FVec Ideal S512x256 .bf16)
    (k v : FVec Ideal ReferenceIdeal.S2x2048x4x64 .bf16) (wo : FVec Ideal S256x512 .bf16) : Prop where
  x_eq : ∀ (c : Dev nD) (b : Fin 2) (i : Fin 128) (e : Fin 512), xBlk m c (ix3 b i e) = x (ix3 b (rowOf c i) e)
  wq_eq : ∀ c : Dev nD, wqBlk m c = wq
  k_eq : ∀ (c : Dev nD) (b : Fin 2) (j : Fin 128) (h : Fin 4) (d : Fin 64), kBlk m c (ix4 b j h d) = k (ix4 b (rowOf c j) h d)
  v_eq : ∀ (c : Dev nD) (b : Fin 2) (j : Fin 128) (h : Fin 4) (d : Fin 64), vBlk m c (ix4 b j h d) = v (ix4 b (rowOf c j) h d)
  wo_eq : ∀ c : Dev nD, woBlk m c = wo

variable {m : (ℓ : Loc nD τ sig) → Buf (Elt Ideal) ℓ} {x : FVec Ideal ReferenceIdeal.S2x2048x512 .bf16} {wq : FVec Ideal S512x256 .bf16}
    {k v : FVec Ideal ReferenceIdeal.S2x2048x4x64 .bf16} {wo : FVec Ideal S256x512 .bf16}

/-- The score of two rows of the whole arrays. -/
def score (x : FVec Ideal ReferenceIdeal.S2x2048x512 .bf16) (wq : FVec Ideal S512x256 .bf16) (k : FVec Ideal ReferenceIdeal.S2x2048x4x64 .bf16)
    (b : Fin 2) (h : Fin 4) (i j : Fin 2048) : EReal :=
  (∑ d : Fin 64, qR x wq (ix4 b i h d) * k (ix4 b j h d)) * scale

/-- The kernel's scores are those of the whole arrays. -/
theorem Holds.score_eq (H : Holds m x wq k v wo) (c e : Dev nD) (b : Fin 2) (h : Fin 4) (i j : Fin 128) :
    scoreOf m c e b h i j = score x wq k b h (rowOf c i) (rowOf e j) := by
  refine congrArg (fun y => y * scale) (Finset.sum_congr rfl fun d _ => congrArg₂ (· * ·) ?_ (H.k_eq e b j h d))
  rw [pay4_at, qR_at, H.wq_eq]
  exact Finset.sum_congr rfl fun a _ => congrArg (· * _) (H.x_eq c b i a)

/-- Scores of real arrays are real. -/
theorem score_real (hx : ∀ b i e, IsReal (x (ix3 b i e))) (hwq : ∀ e f, IsReal (wq (ix2 e f))) (hk : ∀ b j h d, IsReal (k (ix4 b j h d)))
    (b : Fin 2) (h : Fin 4) (i j : Fin 2048) : IsReal (score x wq k b h i j) := by
  refine IsReal.mul (IsReal.sum fun d => IsReal.mul ?_ (hk b j h d)) ⟨_, scale_eq⟩
  rw [qR_at]
  exact IsReal.sum fun e => (hx b i e).mul (hwq e _)

variable {s : Fin 2 → Fin 4 → Fin 2048 → Fin 2048 → ℝ}

/-- The reference's context: the weighted sum of the values over the weights' sum. -/
theorem refContext_at (hs : ∀ b h i j, score x wq k b h i j = (s b h i j : EReal)) (b : Fin 2) (i : Fin 2048) (h : Fin 4) (d : Fin 64) :
    ctxR v (weightR (expR (scoreR (qR x wq) k))) (ix4 b i h d) =
      Ideal.div (∑ j, plain (inBand i) (s b h i) j * v (ix4 b j h d)) (∑ j, plain (inBand i) (s b h i) j) := by
  have hsc : ∀ j, scoreR (qR x wq) k (ix4 b h i j) = masked (inBand i) (s b h i) j := fun j => by
    rw [scoreR_at, masked, ← hs b h i j]; rfl
  rw [← softmax_eq (inBand i) (s b h i) ⟨i, by simp [inBand]⟩, ctxR_at]
  simp only [weightR_at, sumR_at, expR_at, maxR_at, hsc]

/-- The kernel's weights are the reference's within each of the three blocks. -/
theorem Holds.weight_eq (H : Holds m x wq k v wo) (hs : ∀ b h i j, score x wq k b h i j = (s b h i j : EReal)) (c e : Dev nD)
    (b : Fin 2) (h : Fin 4) (i j : Fin 128) : weightOf m c e b h i j = plain (inBand (rowOf c i)) (s b h (rowOf c i)) (rowOf e j) := by
  rw [weightOf, plain, H.score_eq, hs]

/-- The contexts are the same. -/
theorem Holds.context_eq (H : Holds m x wq k v wo) (hs : ∀ b h i j, score x wq k b h i j = (s b h i j : EReal)) (c : Dev nD)
    (b : Fin 2) (i : Fin 128) (h : Fin 4) (d : Fin 64) :
    ctxAt m c (ix4 b i h d) = ctxR v (weightR (expR (scoreR (qR x wq) k))) (ix4 b (rowOf c i) h d) := by
  have hout : ∀ j, ¬ inBand (rowOf c i) j → plain (inBand (rowOf c i)) (s b h (rowOf c i)) j = 0 := fun j hj => if_neg hj
  rw [ctxAt_at, refContext_at hs, sum_band c i _ fun j hj => by rw [hout j hj, zero_mul], sum_band c i _ hout]
  unfold overBlocks valueSum weightSum
  simp only [H.weight_eq hs]
  refine congrArg₂ Ideal.div (congrArg₂ (· + ·) (congrArg₂ (· + ·) ?_ ?_) ?_) rfl <;>
    exact Finset.sum_congr rfl fun j _ => congrArg _ (H.v_eq _ b j h d)

/-- Each device stores its block of the whole result. -/
theorem Holds.out_eq (H : Holds m x wq k v wo) (hx : ∀ b i e, IsReal (x (ix3 b i e))) (hwq : ∀ e f, IsReal (wq (ix2 e f)))
    (hk : ∀ b j h d, IsReal (k (ix4 b j h d))) (c : Dev nD) (b : Fin 2) (i : Fin 128) (f : Fin 512) :
    outAt m c (ix3 b i f) = outR x wq k v wo (ix3 b (rowOf c i) f) := by
  choose s hs using score_real (k := k) hx hwq hk
  rw [outAt_at, outR_at, H.wo_eq]
  show (_ : EReal) = _
  exact Finset.sum_congr rfl fun g _ => congrArg (· * _) (H.context_eq hs c b i _ _)

end Cert.KernelIdeal.Attn

end
-- ==== Proof.lean ====
/-
# The proof of the claims

* `Cert.Kernel.Run.frame` and `Cert.KernelIdeal.Run.frame` (`Proof/Real`, `Proof/Ideal`: the same proof at the two float
  instances): the kernel, on sixteen devices, runs, its arguments end unchanged, every semaphore counter ends at zero.
* `reference_frame`: so does the reference, on one device, which has host operations only and declares no semaphore.
* `equal`: over extended reals, from memories whose scores are real, every device's block of the kernel's result is its block of
  the reference's (`Proof/Value`).
* `claim`: all of them together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Ideal.Final
public import proofs.«01_k».proof.Proof.Real.Final
public import proofs.«01_k».proof.Proof.Value.Equal

@[expose] public section

set_option maxRecDepth 16384

noncomputable section

namespace Cert.Proof

open Idealize.ShloMosaic Idealize.ShloMosaic.StableHlo Idealize.SL.Sem Cert.Attn

/-- What the precondition's two printed forms state of shapes. -/
theorem facts_pre : Cert.Pre_scores_finite_KernelIdeal.Facts :=
  { bcast_S_S2x128x512 := by decide, bcast_S_S512x256 := by decide, bcast_S_S2x128x4x64 := by decide }
/-- The same of the precondition over the whole arrays. -/
theorem facts_pre_reference : Cert.Pre_scores_finite_ReferenceIdeal.Facts :=
  { bcast_S_S2x2048x512 := by decide, bcast_S_S512x256 := by decide, bcast_S_S2x2048x4x64 := by decide }

/-! ## The frames -/

/-- The reference declares no semaphore, so all its counters are zero. -/
theorem reference_counters {s : MemSt Cert.ReferenceIdeal.nD Cert.ReferenceIdeal.τ Cert.ReferenceIdeal.sig (Elt Ideal)} :
    s.sem = fun _ => 0 :=
  funext fun ⟨_, g⟩ => match g with
    | .reg w => w.elim0
    | .dma w => w.elim0

/-- The reference runs, its arguments end unchanged and every counter at zero. -/
theorem reference_frame : Cert.quiescent_ReferenceIdeal (hReferenceIdeal := Cert.ReferenceIdeal.Gen.facts) := fun m ρ _ =>
  θ_run_mono (Cert.ReferenceIdeal.Value.run (F := Ideal) m ρ) fun _ h => ⟨fun c => (h c).2, reference_counters⟩

/-! ## The values -/

/-- An index of a block of rows, in the whole array. -/
theorem idx_rows3 (h : Layout.Tiles ⟨3, ![2, 128, 512]⟩ ⟨3, ![2, 2048, 512]⟩ 1 16) (c : Fin 16) (b : Fin 2) (i : Fin 128) (e : Fin 512) :
    h.idx c (ix3 b i e) = ix3 b (rowOf c i) e := by
  funext a
  refine Fin.ext ((h.idx_val c _ a).trans ?_)
  fin_cases a <;> rfl
/-- The same of an array with heads. -/
theorem idx_rows4 (h : Layout.Tiles ⟨4, ![2, 128, 4, 64]⟩ ⟨4, ![2, 2048, 4, 64]⟩ 1 16) (c : Fin 16) (b : Fin 2) (i : Fin 128)
    (k : Fin 4) (d : Fin 64) : h.idx c (ix4 b i k d) = ix4 b (rowOf c i) k d := by
  funext a
  refine Fin.ext ((h.idx_val c _ a).trans ?_)
  fin_cases a <;> rfl

/-- The block that a row lies in. -/
def blockNo (i : Fin 2048) : Fin 16 := ⟨i.val / 128, by omega⟩
/-- Its row within the block. -/
def rowNo (i : Fin 2048) : Fin 128 := ⟨i.val % 128, by omega⟩
/-- Every row is a row of a block. -/
theorem row_split (i : Fin 2048) : rowOf (blockNo i) (rowNo i) = i :=
  Fin.ext (by simp only [rowOf, blockNo, rowNo]; omega)

section Whole

variable {m : (ℓ : Loc Cert.KernelIdeal.nD Cert.KernelIdeal.τ Cert.KernelIdeal.sig) → Buf (Elt Ideal) ℓ}
  {x : FVec Ideal Cert.ReferenceIdeal.S2x2048x512 .bf16} {wq : FVec Ideal Cert.KernelIdeal.S512x256 .bf16}
  {k v : FVec Ideal Cert.ReferenceIdeal.S2x2048x4x64 .bf16} {wo : FVec Ideal Cert.KernelIdeal.S256x512 .bf16}

/-- The whole arrays of devices that pass the precondition's test are real. -/
theorem whole_real (H : Cert.KernelIdeal.Attn.Holds m x wq k v wo)
    (hpre : Cert.Pre_KernelIdeal_scores_finite_KernelIdeal (hPre_scores_finite_KernelIdeal := facts_pre) m) :
    (∀ b i e, IsReal (x (ix3 b i e))) ∧ (∀ e f, IsReal (wq (ix2 e f))) ∧ ∀ b j h d, IsReal (k (ix4 b j h d)) := by
  letI := facts_pre
  refine ⟨fun b i e => ?_, fun e f => ?_, fun b j h d => ?_⟩
  · have t := Cert.Pre_scores_finite_KernelIdeal.real_x _ _ _ _ _ (hpre (blockNo i)).1 b (rowNo i) e
    rw [← Cert.KernelIdeal.Run.xBlk_eq m (blockNo i), H.x_eq, row_split] at t
    exact t
  · have t := Cert.Pre_scores_finite_KernelIdeal.real_wq _ _ _ _ _ (hpre 0).2.1 e f
    rw [← Cert.KernelIdeal.Run.wqBlk_eq m 0, H.wq_eq] at t
    exact t
  · have t := Cert.Pre_scores_finite_KernelIdeal.real_k _ _ _ _ _ (hpre (blockNo j)).2.2 b (rowNo j) h d
    rw [← Cert.KernelIdeal.Run.kBlk_eq m (blockNo j), H.k_eq, row_split] at t
    exact t

end Whole

/-- Over extended reals, from memories whose scores are real: each device ends with its block of the reference's result. -/
theorem equal : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := facts_pre) := by
  intro m ρ m' ρ' hpre hagree
  have H : Cert.KernelIdeal.Attn.Holds m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x_eq := fun c b i e => by
        rw [Cert.KernelIdeal.Run.xBlk_eq, (hagree c).1, Layout.block_apply, idx_rows3]
      wq_eq := fun c => by rw [Cert.KernelIdeal.Run.wqBlk_eq, (hagree c).2.1]
      k_eq := fun c b j h d => by
        rw [Cert.KernelIdeal.Run.kBlk_eq, (hagree c).2.2.1, Layout.block_apply, idx_rows4]
      v_eq := fun c b j h d => by
        rw [Cert.KernelIdeal.Run.vBlk_eq, (hagree c).2.2.2.1, Layout.block_apply, idx_rows4]
      wo_eq := fun c => by rw [Cert.KernelIdeal.Run.woBlk_eq, (hagree c).2.2.2.2] }
  obtain ⟨hx, hwq, hk⟩ := whole_real H hpre
  refine ⟨Cert.ReferenceIdeal.Value.res_main_v39 m' 0, θ_run_mono (Cert.KernelIdeal.Run.run_main m ρ) fun _ h c => ⟨?_, h.1.arg0 c, h.1.arg1 c, h.1.arg2 c, h.1.arg3 c, h.1.arg4 c⟩,
    θ_run_mono (Cert.ReferenceIdeal.Value.run (F := Ideal) m' ρ') fun _ h => h 0⟩
  rw [h.1.out c, Cert.ReferenceIdeal.Attn.result_eq]
  funext y
  obtain ⟨b, i, f, rfl⟩ : ∃ (b : Fin 2) (i : Fin 128) (f : Fin 512), y = ix3 b i f := ⟨y 0, y 1, y 2, by funext a; fin_cases a <;> rfl⟩
  rw [H.out_eq hx hwq hk, Layout.block_apply, idx_rows3]

/-- The five claims. -/
theorem claim : Cert.Claim :=
  ⟨Cert.Kernel.Gen.facts, Cert.KernelIdeal.Gen.facts, Cert.ReferenceIdeal.Gen.facts, facts_pre, facts_pre_reference,
    fun m ρ _ => Cert.Kernel.Run.frame m ρ, fun m ρ _ => Cert.KernelIdeal.Run.frame m ρ, fun m ρ _ => Cert.KernelIdeal.Run.frame m ρ,
    reference_frame, fun m ρ _ => reference_frame m ρ trivial, trivial, equal⟩

end Cert.Proof

end
